-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S_ : Shape := ⟨0, ![]⟩

class Facts : Prop where
  bcast_S_S512x256 : S_.BroadcastsInDim S512x256 (![] : Fin 0 → Fin S512x256.rank)
  bcast_S_S256x32 : S_.BroadcastsInDim S256x32 (![] : Fin 0 → Fin S256x32.rank)
  bcast_S_S512x2 : S_.BroadcastsInDim S512x2 (![] : Fin 0 → Fin S512x2.rank)

variable [Facts]

def fn {F : FTy → Type} [FloatOps F] (main_arg0 : FVec F S512x256 .bf16) (main_arg1 : FVec F S256x32 .bf16) (main_arg2 : IVec S512x2 32) (main_arg3 : FVec F S2x256x512 .bf16) : IVec S512x256 1 × IVec S256x32 1 × IVec S512x2 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_v3 : FVec F S256x32 .bf16 := Host.absf main_arg1
  let main_cst_0 : FVec F S_ .bf16 := constant S_ .bf16 0x7F80#16
  let main_v4 : FVec F S256x32 .bf16 := broadcastInDim S256x32 ![] bcast_S_S256x32 main_cst_0
  let main_v5 : IVec S256x32 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 32#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Pre_routed_ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S_ : Shape := ⟨0, ![]⟩

class Facts : Prop where
  bcast_S_S512x256 : S_.BroadcastsInDim S512x256 (![] : Fin 0 → Fin S512x256.rank)
  bcast_S_S256x32 : S_.BroadcastsInDim S256x32 (![] : Fin 0 → Fin S256x32.rank)
  bcast_S_S512x2 : S_.BroadcastsInDim S512x2 (![] : Fin 0 → Fin S512x2.rank)

variable [Facts]

def fn {F : FTy → Type} [FloatOps F] (main_arg0 : FVec F S512x256 .bf16) (main_arg1 : FVec F S256x32 .bf16) (main_arg2 : IVec S512x2 32) (main_arg3 : FVec F S32x256x512 .bf16) : IVec S512x256 1 × IVec S256x32 1 × IVec S512x2 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_v3 : FVec F S256x32 .bf16 := Host.absf main_arg1
  let main_cst_0 : FVec F S_ .bf16 := constant S_ .bf16 0x7F80#16
  let main_v4 : FVec F S256x32 .bf16 := broadcastInDim S256x32 ![] bcast_S_S256x32 main_cst_0
  let main_v5 : IVec S256x32 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 32#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Kernel.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S512x512 : Shape := ⟨2, ![512, 512]⟩
abbrev S16x32x512 : Shape := ⟨3, ![16, 32, 512]⟩
abbrev S15 : Shape := ⟨1, ![15]⟩
abbrev S16 : Shape := ⟨1, ![16]⟩
abbrev S_ : Shape := ⟨0, ![]⟩
abbrev S512x32 : Shape := ⟨2, ![512, 32]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1 : Shape := ⟨1, ![1]⟩
abbrev S1x32x512 : Shape := ⟨3, ![1, 32, 512]⟩
abbrev S32x512 : Shape := ⟨2, ![32, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S2x256x512, .bf16⟩
  | .hbm, ⟨4, _⟩ => ⟨S512x512, .bf16⟩
  | .local _ .vmem, ⟨0, _⟩ => ⟨S512x256, .bf16⟩
  | .local _ .vmem, ⟨1, _⟩ => ⟨S256x32, .bf16⟩
  | .local _ .vmem, ⟨2, _⟩ => ⟨S512x2, .i32⟩
  | .local _ .vmem, ⟨3, _⟩ => ⟨S2x256x512, .bf16⟩
  | .local _ .vmem, ⟨4, _⟩ => ⟨S512x512, .bf16⟩
  | .local _ .vmem, ⟨5, _⟩ => ⟨S512x512, .bf16⟩
  | .local _ .vmem, ⟨6, _⟩ => ⟨S16x32x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_96 : BitVec 32 := 0#32
  let c0_i32_97 : BitVec 32 := 0#32
  ![v2.toNat, 0, 0]
def k0_off3 (d0 : Dev nD) (c1_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v139 : BitVec 32 := Scalar.addi v2 c1_i32_91
  let c16_i32_92 : BitVec 32 := 16#32
  let v140 : BitVec 32 := Scalar.remsi v139 c16_i32_92
  let c32_i32 : BitVec 32 := 32#32
  let v141 : BitVec 32 := Scalar.muli v140 c32_i32
  let c0_i32_98 : BitVec 32 := 0#32
  ![v141.toNat, 0]
def k0_dev16 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_91 : BitVec 32 := 1#32
  let v139 : BitVec 32 := Scalar.addi v2 c1_i32_91
  let c16_i32_92 : BitVec 32 := 16#32
  let v140 : BitVec 32 := Scalar.remsi v139 c16_i32_92
  let c1_i32_94 : BitVec 32 := 1#32
  let v142 : BitVec 32 := Scalar.muli v140 c1_i32_94
  let v143 : BitVec 32 := Scalar.addi c0_i32_95 v142
  v143.toNat
def k0_dev17 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_99 : BitVec 32 := 2#32
  let v151 : BitVec 32 := Scalar.addi v2 c2_i32_99
  let c16_i32_100 : BitVec 32 := 16#32
  let v152 : BitVec 32 := Scalar.remsi v151 c16_i32_100
  let c1_i32_103 : BitVec 32 := 1#32
  let v154 : BitVec 32 := Scalar.muli v152 c1_i32_103
  let v155 : BitVec 32 := Scalar.addi c0_i32_104 v154
  v155.toNat
def k0_dev18 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_108 : BitVec 32 := 3#32
  let v163 : BitVec 32 := Scalar.addi v2 c3_i32_108
  let c16_i32_109 : BitVec 32 := 16#32
  let v164 : BitVec 32 := Scalar.remsi v163 c16_i32_109
  let c1_i32_112 : BitVec 32 := 1#32
  let v166 : BitVec 32 := Scalar.muli v164 c1_i32_112
  let v167 : BitVec 32 := Scalar.addi c0_i32_113 v166
  v167.toNat
def k0_dev19 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_117 : BitVec 32 := 4#32
  let v175 : BitVec 32 := Scalar.addi v2 c4_i32_117
  let c16_i32_118 : BitVec 32 := 16#32
  let v176 : BitVec 32 := Scalar.remsi v175 c16_i32_118
  let c1_i32_121 : BitVec 32 := 1#32
  let v178 : BitVec 32 := Scalar.muli v176 c1_i32_121
  let v179 : BitVec 32 := Scalar.addi c0_i32_122 v178
  v179.toNat
def k0_dev20 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_126 : BitVec 32 := 5#32
  let v187 : BitVec 32 := Scalar.addi v2 c5_i32_126
  let c16_i32_127 : BitVec 32 := 16#32
  let v188 : BitVec 32 := Scalar.remsi v187 c16_i32_127
  let c1_i32_130 : BitVec 32 := 1#32
  let v190 : BitVec 32 := Scalar.muli v188 c1_i32_130
  let v191 : BitVec 32 := Scalar.addi c0_i32_131 v190
  v191.toNat
def k0_dev21 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_135 : BitVec 32 := 6#32
  let v199 : BitVec 32 := Scalar.addi v2 c6_i32_135
  let c16_i32_136 : BitVec 32 := 16#32
  let v200 : BitVec 32 := Scalar.remsi v199 c16_i32_136
  let c1_i32_139 : BitVec 32 := 1#32
  let v202 : BitVec 32 := Scalar.muli v200 c1_i32_139
  let v203 : BitVec 32 := Scalar.addi c0_i32_140 v202
  v203.toNat
def k0_dev22 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_144 : BitVec 32 := 7#32
  let v211 : BitVec 32 := Scalar.addi v2 c7_i32_144
  let c16_i32_145 : BitVec 32 := 16#32
  let v212 : BitVec 32 := Scalar.remsi v211 c16_i32_145
  let c1_i32_148 : BitVec 32 := 1#32
  let v214 : BitVec 32 := Scalar.muli v212 c1_i32_148
  let v215 : BitVec 32 := Scalar.addi c0_i32_149 v214
  v215.toNat
def k0_dev23 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_153 : BitVec 32 := 8#32
  let v223 : BitVec 32 := Scalar.addi v2 c8_i32_153
  let c16_i32_154 : BitVec 32 := 16#32
  let v224 : BitVec 32 := Scalar.remsi v223 c16_i32_154
  let c1_i32_157 : BitVec 32 := 1#32
  let v226 : BitVec 32 := Scalar.muli v224 c1_i32_157
  let v227 : BitVec 32 := Scalar.addi c0_i32_158 v226
  v227.toNat
def k0_dev24 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_162 : BitVec 32 := 9#32
  let v235 : BitVec 32 := Scalar.addi v2 c9_i32_162
  let c16_i32_163 : BitVec 32 := 16#32
  let v236 : BitVec 32 := Scalar.remsi v235 c16_i32_163
  let c1_i32_166 : BitVec 32 := 1#32
  let v238 : BitVec 32 := Scalar.muli v236 c1_i32_166
  let v239 : BitVec 32 := Scalar.addi c0_i32_167 v238
  v239.toNat
def k0_dev25 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_171 : BitVec 32 := 10#32
  let v247 : BitVec 32 := Scalar.addi v2 c10_i32_171
  let c16_i32_172 : BitVec 32 := 16#32
  let v248 : BitVec 32 := Scalar.remsi v247 c16_i32_172
  let c1_i32_175 : BitVec 32 := 1#32
  let v250 : BitVec 32 := Scalar.muli v248 c1_i32_175
  let v251 : BitVec 32 := Scalar.addi c0_i32_176 v250
  v251.toNat
def k0_dev26 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_180 : BitVec 32 := 11#32
  let v259 : BitVec 32 := Scalar.addi v2 c11_i32_180
  let c16_i32_181 : BitVec 32 := 16#32
  let v260 : BitVec 32 := Scalar.remsi v259 c16_i32_181
  let c1_i32_184 : BitVec 32 := 1#32
  let v262 : BitVec 32 := Scalar.muli v260 c1_i32_184
  let v263 : BitVec 32 := Scalar.addi c0_i32_185 v262
  v263.toNat
def k0_dev27 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_189 : BitVec 32 := 12#32
  let v271 : BitVec 32 := Scalar.addi v2 c12_i32_189
  let c16_i32_190 : BitVec 32 := 16#32
  let v272 : BitVec 32 := Scalar.remsi v271 c16_i32_190
  let c1_i32_193 : BitVec 32 := 1#32
  let v274 : BitVec 32 := Scalar.muli v272 c1_i32_193
  let v275 : BitVec 32 := Scalar.addi c0_i32_194 v274
  v275.toNat
def k0_dev28 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_198 : BitVec 32 := 13#32
  let v283 : BitVec 32 := Scalar.addi v2 c13_i32_198
  let c16_i32_199 : BitVec 32 := 16#32
  let v284 : BitVec 32 := Scalar.remsi v283 c16_i32_199
  let c1_i32_202 : BitVec 32 := 1#32
  let v286 : BitVec 32 := Scalar.muli v284 c1_i32_202
  let v287 : BitVec 32 := Scalar.addi c0_i32_203 v286
  v287.toNat
def k0_dev29 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_207 : BitVec 32 := 14#32
  let v295 : BitVec 32 := Scalar.addi v2 c14_i32_207
  let c16_i32_208 : BitVec 32 := 16#32
  let v296 : BitVec 32 := Scalar.remsi v295 c16_i32_208
  let c1_i32_211 : BitVec 32 := 1#32
  let v298 : BitVec 32 := Scalar.muli v296 c1_i32_211
  let v299 : BitVec 32 := Scalar.addi c0_i32_212 v298
  v299.toNat
def k0_dev30 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_216 : BitVec 32 := 15#32
  let v307 : BitVec 32 := Scalar.addi v2 c15_i32_216
  let c16_i32_217 : BitVec 32 := 16#32
  let v308 : BitVec 32 := Scalar.remsi v307 c16_i32_217
  let c1_i32_220 : BitVec 32 := 1#32
  let v310 : BitVec 32 := Scalar.muli v308 c1_i32_220
  let v311 : BitVec 32 := Scalar.addi c0_i32_221 v310
  v311.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_225 : BitVec 32 := 32#32
  let v319 : BitVec 32 := Scalar.muli v2 c32_i32_225
  let v320 : Index := Scalar.indexCast v319
  let c0_226 : Index := 0#32
  ![v320.toNat, 0]
def k0_off5 (d0 : Dev nD) (c1_i32_227 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v323 : BitVec 32 := Scalar.addi v2 c1_i32_227
  let c16_i32_228 : BitVec 32 := 16#32
  let v324 : BitVec 32 := Scalar.remsi v323 c16_i32_228
  ![v324.toNat]
def k0_off6 (d0 : Dev nD) (c1_i32_227 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v323 : BitVec 32 := Scalar.addi v2 c1_i32_227
  let c16_i32_228 : BitVec 32 := 16#32
  let v324 : BitVec 32 := Scalar.remsi v323 c16_i32_228
  let c0_i32_232 : BitVec 32 := 0#32
  let c0_i32_233 : BitVec 32 := 0#32
  ![v324.toNat, 0, 0]
def k0_off7 (d0 : Dev nD) (c1_i32_227 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v323 : BitVec 32 := Scalar.addi v2 c1_i32_227
  let c16_i32_228 : BitVec 32 := 16#32
  let v324 : BitVec 32 := Scalar.remsi v323 c16_i32_228
  let v332 : Index := Scalar.indexCast v324
  let c0_236 : Index := 0#32
  let c0_237 : Index := 0#32
  ![v332.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_397 : BitVec 32 := 32#32
  let v540 : BitVec 32 := Scalar.muli v2 c32_i32_397
  let c0_i32_401 : BitVec 32 := 0#32
  ![v540.toNat, 0]
def k0_dev31 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_394 : BitVec 32 := 1#32
  let v537 : BitVec 32 := Scalar.addi v2 c1_i32_394
  let c16_i32_395 : BitVec 32 := 16#32
  let v538 : BitVec 32 := Scalar.remsi v537 c16_i32_395
  let c1_i32_399 : BitVec 32 := 1#32
  let v541 : BitVec 32 := Scalar.muli v538 c1_i32_399
  let v542 : BitVec 32 := Scalar.addi c0_i32_400 v541
  v542.toNat
def k0_dev32 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_403 : BitVec 32 := 2#32
  let v549 : BitVec 32 := Scalar.addi v2 c2_i32_403
  let c16_i32_404 : BitVec 32 := 16#32
  let v550 : BitVec 32 := Scalar.remsi v549 c16_i32_404
  let c1_i32_408 : BitVec 32 := 1#32
  let v553 : BitVec 32 := Scalar.muli v550 c1_i32_408
  let v554 : BitVec 32 := Scalar.addi c0_i32_409 v553
  v554.toNat
def k0_dev33 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_412 : BitVec 32 := 3#32
  let v561 : BitVec 32 := Scalar.addi v2 c3_i32_412
  let c16_i32_413 : BitVec 32 := 16#32
  let v562 : BitVec 32 := Scalar.remsi v561 c16_i32_413
  let c1_i32_417 : BitVec 32 := 1#32
  let v565 : BitVec 32 := Scalar.muli v562 c1_i32_417
  let v566 : BitVec 32 := Scalar.addi c0_i32_418 v565
  v566.toNat
def k0_dev34 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_421 : BitVec 32 := 4#32
  let v573 : BitVec 32 := Scalar.addi v2 c4_i32_421
  let c16_i32_422 : BitVec 32 := 16#32
  let v574 : BitVec 32 := Scalar.remsi v573 c16_i32_422
  let c1_i32_426 : BitVec 32 := 1#32
  let v577 : BitVec 32 := Scalar.muli v574 c1_i32_426
  let v578 : BitVec 32 := Scalar.addi c0_i32_427 v577
  v578.toNat
def k0_dev35 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_430 : BitVec 32 := 5#32
  let v585 : BitVec 32 := Scalar.addi v2 c5_i32_430
  let c16_i32_431 : BitVec 32 := 16#32
  let v586 : BitVec 32 := Scalar.remsi v585 c16_i32_431
  let c1_i32_435 : BitVec 32 := 1#32
  let v589 : BitVec 32 := Scalar.muli v586 c1_i32_435
  let v590 : BitVec 32 := Scalar.addi c0_i32_436 v589
  v590.toNat
def k0_dev36 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_439 : BitVec 32 := 6#32
  let v597 : BitVec 32 := Scalar.addi v2 c6_i32_439
  let c16_i32_440 : BitVec 32 := 16#32
  let v598 : BitVec 32 := Scalar.remsi v597 c16_i32_440
  let c1_i32_444 : BitVec 32 := 1#32
  let v601 : BitVec 32 := Scalar.muli v598 c1_i32_444
  let v602 : BitVec 32 := Scalar.addi c0_i32_445 v601
  v602.toNat
def k0_dev37 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v609 : BitVec 32 := Scalar.addi v2 c7_i32_448
  let c16_i32_449 : BitVec 32 := 16#32
  let v610 : BitVec 32 := Scalar.remsi v609 c16_i32_449
  let c1_i32_453 : BitVec 32 := 1#32
  let v613 : BitVec 32 := Scalar.muli v610 c1_i32_453
  let v614 : BitVec 32 := Scalar.addi c0_i32_454 v613
  v614.toNat
def k0_dev38 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_457 : BitVec 32 := 8#32
  let v621 : BitVec 32 := Scalar.addi v2 c8_i32_457
  let c16_i32_458 : BitVec 32 := 16#32
  let v622 : BitVec 32 := Scalar.remsi v621 c16_i32_458
  let c1_i32_462 : BitVec 32 := 1#32
  let v625 : BitVec 32 := Scalar.muli v622 c1_i32_462
  let v626 : BitVec 32 := Scalar.addi c0_i32_463 v625
  v626.toNat
def k0_dev39 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_466 : BitVec 32 := 9#32
  let v633 : BitVec 32 := Scalar.addi v2 c9_i32_466
  let c16_i32_467 : BitVec 32 := 16#32
  let v634 : BitVec 32 := Scalar.remsi v633 c16_i32_467
  let c1_i32_471 : BitVec 32 := 1#32
  let v637 : BitVec 32 := Scalar.muli v634 c1_i32_471
  let v638 : BitVec 32 := Scalar.addi c0_i32_472 v637
  v638.toNat
def k0_dev40 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_475 : BitVec 32 := 10#32
  let v645 : BitVec 32 := Scalar.addi v2 c10_i32_475
  let c16_i32_476 : BitVec 32 := 16#32
  let v646 : BitVec 32 := Scalar.remsi v645 c16_i32_476
  let c1_i32_480 : BitVec 32 := 1#32
  let v649 : BitVec 32 := Scalar.muli v646 c1_i32_480
  let v650 : BitVec 32 := Scalar.addi c0_i32_481 v649
  v650.toNat
def k0_dev41 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_484 : BitVec 32 := 11#32
  let v657 : BitVec 32 := Scalar.addi v2 c11_i32_484
  let c16_i32_485 : BitVec 32 := 16#32
  let v658 : BitVec 32 := Scalar.remsi v657 c16_i32_485
  let c1_i32_489 : BitVec 32 := 1#32
  let v661 : BitVec 32 := Scalar.muli v658 c1_i32_489
  let v662 : BitVec 32 := Scalar.addi c0_i32_490 v661
  v662.toNat
def k0_dev42 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_493 : BitVec 32 := 12#32
  let v669 : BitVec 32 := Scalar.addi v2 c12_i32_493
  let c16_i32_494 : BitVec 32 := 16#32
  let v670 : BitVec 32 := Scalar.remsi v669 c16_i32_494
  let c1_i32_498 : BitVec 32 := 1#32
  let v673 : BitVec 32 := Scalar.muli v670 c1_i32_498
  let v674 : BitVec 32 := Scalar.addi c0_i32_499 v673
  v674.toNat
def k0_dev43 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_502 : BitVec 32 := 13#32
  let v681 : BitVec 32 := Scalar.addi v2 c13_i32_502
  let c16_i32_503 : BitVec 32 := 16#32
  let v682 : BitVec 32 := Scalar.remsi v681 c16_i32_503
  let c1_i32_507 : BitVec 32 := 1#32
  let v685 : BitVec 32 := Scalar.muli v682 c1_i32_507
  let v686 : BitVec 32 := Scalar.addi c0_i32_508 v685
  v686.toNat
def k0_dev44 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_511 : BitVec 32 := 14#32
  let v693 : BitVec 32 := Scalar.addi v2 c14_i32_511
  let c16_i32_512 : BitVec 32 := 16#32
  let v694 : BitVec 32 := Scalar.remsi v693 c16_i32_512
  let c1_i32_516 : BitVec 32 := 1#32
  let v697 : BitVec 32 := Scalar.muli v694 c1_i32_516
  let v698 : BitVec 32 := Scalar.addi c0_i32_517 v697
  v698.toNat
def k0_dev45 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_520 : BitVec 32 := 15#32
  let v705 : BitVec 32 := Scalar.addi v2 c15_i32_520
  let c16_i32_521 : BitVec 32 := 16#32
  let v706 : BitVec 32 := Scalar.remsi v705 c16_i32_521
  let c1_i32_525 : BitVec 32 := 1#32
  let v709 : BitVec 32 := Scalar.muli v706 c1_i32_525
  let v710 : BitVec 32 := Scalar.addi c0_i32_526 v709
  v710.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x32 : Shape := ⟨2, ![512, 32]⟩
abbrev S_ : Shape := ⟨0, ![]⟩
abbrev S512 : Shape := ⟨1, ![512]⟩
abbrev S512x1 : Shape := ⟨2, ![512, 1]⟩
abbrev S512x2x1 : Shape := ⟨3, ![512, 2, 1]⟩
abbrev S512x256x512 : Shape := ⟨3, ![512, 256, 512]⟩
abbrev S512x512 : Shape := ⟨2, ![512, 512]⟩

abbrev nBuf : Space → Nat
  | .hbm => 49
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S32x256x512, .bf16⟩
  | .hbm, ⟨4, _⟩ => ⟨S512x256, .f32⟩
  | .hbm, ⟨5, _⟩ => ⟨S256x32, .f32⟩
  | .hbm, ⟨6, _⟩ => ⟨S512x32, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x32, .f32⟩
  | .hbm, ⟨11, _⟩ => ⟨S512x32, .f32⟩
  | .hbm, ⟨12, _⟩ => ⟨S512x32, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x32, .f32⟩
  | .hbm, ⟨17, _⟩ => ⟨S512x32, .f32⟩
  | .hbm, ⟨18, _⟩ => ⟨S32x256x512, .f32⟩
  | .hbm, ⟨19, _⟩ => ⟨S512x1, .i32⟩
  | .hbm, ⟨20, _⟩ => ⟨S512, .i32⟩
  | .hbm, ⟨21, _⟩ => ⟨S512x1, .i32⟩
  | .hbm, ⟨22, _⟩ => ⟨S512, .i32⟩
  | .hbm, ⟨23, _⟩ => ⟨S_, .i32⟩
  | .hbm, ⟨24, _⟩ => ⟨S512x2, .i32⟩
  | .hbm, ⟨25, _⟩ => ⟨S512x2, .i1⟩
  | .hbm, ⟨26, _⟩ => ⟨S_, .i32⟩
  | .hbm, ⟨27, _⟩ => ⟨S512x2, .i32⟩
  | .hbm, ⟨28, _⟩ => ⟨S512x2, .i32⟩
  | .hbm, ⟨29, _⟩ => ⟨S512x2, .i32⟩
  | .hbm, ⟨30, _⟩ => ⟨S512x2x1, .i32⟩
  | .hbm, ⟨31, _⟩ => ⟨S512x2, .f32⟩
  | .hbm, ⟨32, _⟩ => ⟨S512x1, .f32⟩
  | .hbm, ⟨33, _⟩ => ⟨S512x1, .f32⟩
  | .hbm, ⟨34, _⟩ => ⟨S512x1, .f32⟩
  | .hbm, ⟨35, _⟩ => ⟨S512x1, .i32⟩
  | .hbm, ⟨36, _⟩ => ⟨S512x256x512, .f32⟩
  | .hbm, ⟨37, _⟩ => ⟨S512x512, .f32⟩
  | .hbm, ⟨38, _⟩ => ⟨S512x1, .i32⟩
  | .hbm, ⟨39, _⟩ => ⟨S512x256x512, .f32⟩
  | .hbm, ⟨40, _⟩ => ⟨S512x512, .f32⟩
  | .hbm, ⟨41, _⟩ => ⟨S512x1, .f32⟩
  | .hbm, ⟨42, _⟩ => ⟨S512x512, .f32⟩
  | .hbm, ⟨43, _⟩ => ⟨S512x512, .f32⟩
  | .hbm, ⟨44, _⟩ => ⟨S512x1, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.KernelIdeal.Base.lean ====
/-
# The vocabulary of the exchange: devices, semaphore cells, memory pieces, contents

Each of the 16 devices computes its own partial result (512 rows), sends chunk `p` of it (32 rows) to device
`p`, adds up the 16 chunks it holds of its own rows, and sends the sum to every other device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds copy of this protocol: a duty is named by the device that pays it. -/
abbrev UX : Type := URounds (GSem nD τ sig) (Dev nD)
abbrev UU : Type := UR sig nD τ × UX

local notation "𝕄" => MT nD τ sig Unit (Elt F) ℕ UU ℕ

/-- The pipeline's copy. -/
abbrev EP : Emb (UR sig nD τ) (MT nD τ sig Unit (Elt F) ℕ UU ℕ) := embL
/-- The protocol's copy. -/
abbrev EX : Emb UX (MT nD τ sig Unit (Elt F) ℕ UU ℕ) := embR

variable (m : (ℓ : Loc nD τ sig) → Buf (Elt F) ℓ) (ρ : Dev nD → PrngReg)

/-- The state at launch: memory `m`, every counter zero. -/
def s₀ : MemSt nD τ sig (Elt F) := ⟨m, fun _ => 0, ρ⟩

/-! ## Devices -/

set_option backward.proofsInPublic true in
/-- The `k`-th peer of a device: the one `k + 1` places further round the ring. -/
def peer (c : Dev nD) (k : Fin 15) : Dev nD := ⟨(c.val + k.val + 1) % 16, Nat.mod_lt _ (by decide)⟩

theorem peer_ne (c : Dev nD) (k : Fin 15) : peer c k ≠ c := by revert c k; decide
theorem peer_inj (c : Dev nD) : Function.Injective (peer c) := by
  intro a b h; revert a b; revert c; decide

/-- The peers of a device are all the other devices. -/
theorem peers_eq (c : Dev nD) : (Finset.univ : Finset (Dev nD)).erase c = Finset.univ.map ⟨peer c, peer_inj c⟩ := by
  revert c; decide

/-- A product over the other devices is one over the fifteen peers. -/
theorem bigSep_peers {M : Type} [URA M] (c : Dev nD) (Φ : Dev nD → sProp M) :
    bigSep (Finset.univ.erase c) Φ = bigSep Finset.univ fun k => Φ (peer c k) := by
  rw [peers_eq, bigSep_map]; rfl

/-! ## Semaphores -/

/-- The scoped semaphores of the kernel: first sends, second sends, first receives, second receives. -/
abbrev OC : Type := (Fin 15 ⊕ Fin 15) ⊕ (Fin 16 ⊕ Fin 16)
/-- All of them: the barrier semaphore too. -/
abbrev KC : Type := Unit ⊕ OC

abbrev kB : KC := .inl ()
abbrev kS1 (k : Fin 15) : KC := .inr (.inl (.inl k))
abbrev kS2 (k : Fin 15) : KC := .inr (.inl (.inr k))
abbrev kR1 (s : Fin 16) : KC := .inr (.inr (.inl s))
abbrev kR2 (s : Fin 16) : KC := .inr (.inr (.inr s))

abbrev barS : Sem sig := (SemArray.scalar (sig.barrier 0 rfl) : Sems sig S_).sem

set_option backward.proofsInPublic true in
/-- Where each scoped semaphore lies among the DMA semaphores. -/
def odma : OC → DmaSem sig
  | .inl (.inl k) => ⟨5 + k.val, Nat.lt_of_lt_of_le (Nat.add_lt_add_left k.isLt 5) (by decide)⟩
  | .inl (.inr k) => ⟨20 + k.val, Nat.lt_of_lt_of_le (Nat.add_lt_add_left k.isLt 20) (by decide)⟩
  | .inr (.inl s) => ⟨35 + s.val, Nat.lt_of_lt_of_le (Nat.add_lt_add_left s.isLt 35) (by decide)⟩
  | .inr (.inr s) => ⟨51 + s.val, Nat.lt_of_lt_of_le (Nat.add_lt_add_left s.isLt 51) (by decide)⟩

abbrev osem (o : OC) : SemLoc sig := .dma (odma o)
def csem : KC → SemLoc sig
  | .inl _ => .reg barS
  | .inr o => osem o

/-- The cell of semaphore `k` on device `c`. -/
abbrev kcell (c : Dev nD) (k : KC) : GSem nD τ sig := ((c : Thread nD τ), csem k)

/-- Which of the protocol's semaphores a semaphore is. -/
def kind : SemLoc sig → Option KC
  | .reg s => if s = barS then some kB else none
  | .dma q =>
    if h : q.val < 5 then none
    else if h : q.val < 20 then some (kS1 ⟨q.val - 5, by omega⟩)
    else if h : q.val < 35 then some (kS2 ⟨q.val - 20, by omega⟩)
    else if h : q.val < 51 then some (kR1 ⟨q.val - 35, by omega⟩)
    else if h : q.val < 67 then some (kR2 ⟨q.val - 51, by omega⟩)
    else none

theorem kind_csem (k : KC) : kind (csem k) = some k := by
  revert k; decide +kernel

theorem csem_inj : Function.Injective csem := fun a b h =>
  Option.some.inj ((kind_csem a).symm.trans ((congrArg kind h).trans (kind_csem b)))

theorem osem_inj : Function.Injective osem := fun a b h => Sum.inr.inj (csem_inj (a₁ := .inr a) (a₂ := .inr b) h)

theorem kcell_inj : Function.Injective fun x : Dev nD × KC => kcell x.1 x.2 := by
  rintro ⟨a, ka⟩ ⟨b, kb⟩ h
  have h1 : (a : Thread nD τ) = b := congrArg Prod.fst h
  have h2 : csem ka = csem kb := congrArg Prod.snd h
  exact Prod.ext (by simpa using congrArg Prod.fst h1) (csem_inj h2)

theorem ownSemFacts : Pipeline.OwnSemFacts spec0 osem where
  isScoped := by decide
  inj := osem_inj
  disj := by decide

/-- The semaphores the program's slices name. -/
theorem s1_sem (k : Fin 15) (off : Fin 1 → ℕ) (h : off = ![k.val]) (inb : ∀ a, off a + S1.size a ≤ S15.size a) :
    ((cc0_scratch2.slice (Rect.unit (s := S15) off S1.size inb)).squeeze S_ squeezes_S1_S_).sem = odma (.inl (.inl k)) := by
  subst h; revert k; decide
theorem s2_sem (k : Fin 15) (off : Fin 1 → ℕ) (h : off = ![k.val]) (inb : ∀ a, off a + S1.size a ≤ S15.size a) :
    ((cc0_scratch3.slice (Rect.unit (s := S15) off S1.size inb)).squeeze S_ squeezes_S1_S_).sem = odma (.inl (.inr k)) := by
  subst h; revert k; decide
theorem r1_sem (s : Fin 16) (off : Fin 1 → ℕ) (h : off = ![s.val]) (inb : ∀ a, off a + S1.size a ≤ S16.size a) :
    ((cc0_scratch4.slice (Rect.unit (s := S16) off S1.size inb)).squeeze S_ squeezes_S1_S_).sem = odma (.inr (.inl s)) := by
  subst h; revert s; decide
theorem r2_sem (s : Fin 16) (off : Fin 1 → ℕ) (h : off = ![s.val]) (inb : ∀ a, off a + S1.size a ≤ S16.size a) :
    ((cc0_scratch5.slice (Rect.unit (s := S16) off S1.size inb)).squeeze S_ squeezes_S1_S_).sem = odma (.inr (.inr s)) := by
  subst h; revert s; decide

/-! ## Memory pieces: a chunk is 32 rows, a slot one of the 16 landing places -/

set_option backward.proofsInPublic true in
theorem rows_inb (p : Fin 16) : ∀ a, (![32 * p.val, 0] : Fin 2 → ℕ) a + S32x512.size a ≤ S512x512.size a := by
  revert p; decide
set_option backward.proofsInPublic true in
theorem slot_inb (p : Fin 16) : ∀ a, (![p.val, 0, 0] : Fin 3 → ℕ) a + S1x32x512.size a ≤ S16x32x512.size a := by
  revert p; decide

/-- The rectangle of chunk `p`. -/
abbrev rowsR (p : Fin 16) : Rect S512x512 := Rect.unit (s := S512x512) ![32 * p.val, 0] S32x512.size (rows_inb p)
/-- The rectangle of slot `p`. -/
abbrev slotR (p : Fin 16) : Rect S16x32x512 := Rect.unit (s := S16x32x512) ![p.val, 0, 0] S1x32x512.size (slot_inb p)

abbrev ownM : Memref sig .tc .vmem S512x512 .bf16 := Memref.whole cc0_scratch0
abbrev comM : Memref sig .tc .vmem S16x32x512 .bf16 := Memref.whole cc0_scratch1
abbrev outM : Memref sig .tc .vmem S512x512 .bf16 := Memref.whole cc0_stg4_0

/-- Chunk `p` of the device's own partial result; slot `p` of its landing buffer; chunk `p` of its result. -/
abbrev ownC (p : Fin 16) : Memref sig .tc .vmem S32x512 .bf16 := ownM.slice (rowsR p) (fun _ => rfl)
abbrev comC (p : Fin 16) : Memref sig .tc .vmem S32x512 .bf16 :=
  (comM.slice (slotR p) (fun _ => rfl)).squeeze S32x512 squeezes_S1x32x512_S32x512
abbrev outC (p : Fin 16) : Memref sig .tc .vmem S32x512 .bf16 := outM.slice (rowsR p) (fun _ => rfl)

theorem mem_rowsR (p : Fin 16) (i : S512x512.Idx) : i ∈ (rowsR p).set ↔ (i 0).val / 32 = p.val := by
  rw [Rect.mem_set_unit, Fin.forall_fin_two]
  have h1 : (i 1).val < 512 := (i 1).isLt
  show ((32 * p.val ≤ (i 0).val ∧ (i 0).val < 32 * p.val + 32) ∧ (0 ≤ (i 1).val ∧ (i 1).val < 0 + 512)) ↔ _
  omega
theorem mem_slotR (p : Fin 16) (i : S16x32x512.Idx) : i ∈ (slotR p).set ↔ i 0 = p := by
  rw [Rect.mem_set_unit]
  have h1 : (i 1).val < 32 := (i 1).isLt
  have h2 : (i 2).val < 512 := (i 2).isLt
  constructor
  · intro h
    have h0 : p.val ≤ (i 0).val ∧ (i 0).val < p.val + 1 := h 0
    exact Fin.ext (by omega)
  · intro h a
    subst h
    fin_cases a
    · show (i 0).val ≤ (i 0).val ∧ (i 0).val < (i 0).val + 1; omega
    · show 0 ≤ (i 1).val ∧ (i 1).val < 0 + 32; omega
    · show 0 ≤ (i 2).val ∧ (i 2).val < 0 + 512; omega

theorem set_ownC (p : Fin 16) : (ownC p).view.set = (rowsR p).set := View.set_slice_whole _ _
theorem set_outC (p : Fin 16) : (outC p).view.set = (rowsR p).set := View.set_slice_whole _ _
theorem set_comC (p : Fin 16) : (comC p).view.set = (slotR p).set := (View.set_reshape _ _).trans (View.set_slice_whole _ _)

theorem rows_disjoint {p q : Fin 16} (h : p ≠ q) : Disjoint (rowsR p).set (rowsR q).set :=
  Finset.disjoint_left.mpr fun i hp hq => h (Fin.ext (((mem_rowsR p i).mp hp).symm.trans ((mem_rowsR q i).mp hq)))
theorem slots_disjoint {p q : Fin 16} (h : p ≠ q) : Disjoint (slotR p).set (slotR q).set :=
  Finset.disjoint_left.mpr fun i hp hq => h (((mem_slotR p i).mp hp).symm.trans ((mem_slotR q i).mp hq))
theorem rows_cover : (Finset.univ : Finset (Fin 16)).biUnion (fun p => (rowsR p).set) = Finset.univ :=
  Finset.eq_univ_of_forall fun i => Finset.mem_biUnion.mpr
    ⟨⟨(i 0).val / 32, by have h : (i 0).val < 512 := (i 0).isLt; omega⟩, Finset.mem_univ _, (mem_rowsR _ i).mpr rfl⟩
theorem slots_cover : (Finset.univ : Finset (Fin 16)).biUnion (fun p => (slotR p).set) = Finset.univ :=
  Finset.eq_univ_of_forall fun i => Finset.mem_biUnion.mpr ⟨i 0, Finset.mem_univ _, (mem_slotR _ i).mpr rfl⟩

/-- The units one transfer of a chunk completes with. -/
abbrev N : ℕ := (comC 0).view.dmaCredit
theorem N_pos : 0 < N := View.dmaCredit_pos _ (by decide)

/-! ## Contents -/

/-- The device's own arguments, as staged. -/
def xF (c : Dev nD) : (cc0_stg0_0 : Ref sig .tc).ty.Contents (Elt F) :=
  (win0_0.blk (0 : Fin 1)).view.read (Elt F) ((s₀ m ρ).mem ((c : Thread nD τ).loc main_arg0))
def rwF (c : Dev nD) : (cc0_stg1_0 : Ref sig .tc).ty.Contents (Elt F) :=
  (win0_1.blk (0 : Fin 1)).view.read (Elt F) ((s₀ m ρ).mem ((c : Thread nD τ).loc main_arg1))
def ixF (c : Dev nD) : (cc0_stg2_0 : Ref sig .tc).ty.Contents (Elt F) :=
  (win0_2.blk (0 : Fin 1)).view.read (Elt F) ((s₀ m ρ).mem ((c : Thread nD τ).loc main_arg2))
def ewF (c : Dev nD) : (cc0_stg3_0 : Ref sig .tc).ty.Contents (Elt F) :=
  (win0_3.blk (0 : Fin 1)).view.read (Elt F) ((s₀ m ρ).mem ((c : Thread nD τ).loc main_arg3))

/-- The word the kernel computes from its device id. -/
abbrev wd (c : Dev nD) : BitVec 32 := Scalar.remsi (Scalar.divsi (Dev.word c) 1#32) 16#32

/-- The two columns of the expert indices and the two expert matrices, as loaded. -/
def ix0 (c : Dev nD) : Vec F S512x1 .i32 :=
  (Memref.whole cc0_stg2_0).view.readAt (Elt F) (Rect.unit (s := S512x2) ![0, 0] S512x1.size inb_S512x2_S512x1_0_0).toLoadRect (ixF m ρ c)
def ix1 (c : Dev nD) : Vec F S512x1 .i32 :=
  (Memref.whole cc0_stg2_0).view.readAt (Elt F) (Rect.unit (s := S512x2) ![0, 1] S512x1.size inb_S512x2_S512x1_0_1).toLoadRect (ixF m ρ c)
def ew0 (c : Dev nD) : Vec F S1x256x512 .bf16 :=
  (Memref.whole cc0_stg3_0).view.readAt (Elt F) (Rect.unit (s := S2x256x512) ![0, 0, 0] S1x256x512.size inb_S2x256x512_S1x256x512_0_0_0).toLoadRect (ewF m ρ c)
def ew1 (c : Dev nD) : Vec F S1x256x512 .bf16 :=
  (Memref.whole cc0_stg3_0).view.readAt (Elt F) (Rect.unit (s := S2x256x512) ![1, 0, 0] S1x256x512.size inb_S2x256x512_S1x256x512_1_0_0).toLoadRect (ewF m ρ c)

/-- The device's own partial result: its two experts on all rows. -/
def ownF (c : Dev nD) : (cc0_scratch0 : Ref sig .tc).ty.Contents (Elt F) :=
  k0_pay13 (k0_pay1 (xF m ρ c)) (k0_pay4 (ix1 m ρ c)) (k0_pay8 (k0_pay2 (xF m ρ c) (rwF m ρ c)) (ix0 m ρ c) (ix1 m ρ c))
    (k0_pay9 (k0_pay2 (xF m ρ c) (rwF m ρ c)) (ix0 m ρ c) (ix1 m ρ c))
    (k0_pay10 (wd c) (k0_pay1 (xF m ρ c)) (k0_pay2 (xF m ρ c) (rwF m ρ c)) (ix0 m ρ c) (ix1 m ρ c) (ew0 m ρ c))
    (Scalar.addi (Scalar.muli (wd c) 2#32) 1#32) (k0_pay11 (wd c) (ix0 m ρ c)) (k0_pay12 (F := F)) (ew1 m ρ c)

/-- Row `i`, column `j` of a chunk as an index of the whole. -/
def rowIx (p : Fin 16) (i : Fin 32) (j : Fin 512) : S512x512.Idx :=
  fun a => match a with
    | 0 => ⟨32 * p.val + i.val, by have := p.isLt; have := i.isLt; show _ < 512; omega⟩
    | 1 => j

/-- The landing buffer when all has arrived: slot `s` holds device `s`'s partial result on this device's rows. -/
def comF (c : Dev nD) : (cc0_scratch1 : Ref sig .tc).ty.Contents (Elt F) := fun i => ownF m ρ (i 0) (rowIx c (i 1) (i 2))

/-- What device `c` loads from slot `s`, and its own chunk. -/
def slotV (c : Dev nD) (s : Fin 16) : Vec F S1x32x512 .bf16 := fun i => ownF m ρ s (rowIx c (i 1) (i 2))
def ownV (c : Dev nD) : Vec F S32x512 .bf16 := fun i => ownF m ρ c (rowIx c (i 0) (i 1))

/-- The sum device `c` computes of its rows. -/
def redF (c : Dev nD) : FVec F S32x512 .bf16 :=
  k0_pay20 (k0_pay19 (k0_pay18 (k0_pay17 (k0_pay16 (k0_pay15 (k0_pay14 (ownV m ρ c)
    (slotV m ρ c (peer c 0)) (slotV m ρ c (peer c 1))) (slotV m ρ c (peer c 2)) (slotV m ρ c (peer c 3)))
    (slotV m ρ c (peer c 4)) (slotV m ρ c (peer c 5))) (slotV m ρ c (peer c 6)) (slotV m ρ c (peer c 7)) (slotV m ρ c (peer c 8)))
    (slotV m ρ c (peer c 9)) (slotV m ρ c (peer c 10))) (slotV m ρ c (peer c 11)) (slotV m ρ c (peer c 12)))
    (slotV m ρ c (peer c 13)) (slotV m ρ c (peer c 14))

/-- The result, the same on every device: chunk `s` is device `s`'s sum. -/
def outF : (cc0_stg4_0 : Ref sig .tc).ty.Contents (Elt F) := fun i =>
  redF m ρ ⟨(i 0).val / 32, by have h : (i 0).val < 512 := (i 0).isLt; show _ < 16; omega⟩
    (fun a => match a with
      | 0 => ⟨(i 0).val % 32, Nat.mod_lt _ (by decide)⟩
      | 1 => i 1)

end Cert.KernelIdealProof

end
-- ==== Proof.KernelIdeal.Contents.lean ====
/-
# What the transfers, loads and stores do to the contents
-/
module

public import proofs.«01_k».proof.Proof.KernelIdeal.Base
public import Idealize.ShloMosaic.Lib.ShareLeaves

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- An index of a slot as an index of the landing buffer. -/
def slotIx (p : Fin 16) (i : Fin 32) (j : Fin 512) : S16x32x512.Idx :=
  fun a => match a with
    | 0 => p
    | 1 => i
    | 2 => j

theorem emb_rows (p : Fin 16) (x : S32x512.Idx) : (rowsR p).emb x = rowIx p (x 0) (x 1) := by
  funext a
  refine Fin.ext ?_
  rw [Rect.emb_apply]
  fin_cases a
  · show 32 * p.val + 1 * (x 0).val = 32 * p.val + (x 0).val; omega
  · show 0 + 1 * (x 1).val = (x 1).val; omega

theorem emb_slot (p : Fin 16) (x : S1x32x512.Idx) : (slotR p).emb x = slotIx p (x 1) (x 2) := by
  have h0 : (x 0).val < 1 := (x 0).isLt
  funext a
  refine Fin.ext ?_
  rw [Rect.emb_apply]
  fin_cases a
  · show p.val + 1 * (x 0).val = p.val; omega
  · show 0 + 1 * (x 1).val = (x 1).val; omega
  · show 0 + 1 * (x 2).val = (x 2).val; omega

/-- The index of the one-deep block under an index of the flat one. -/
def unitIx (x : S32x512.Idx) : S1x32x512.Idx :=
  fun a => match a with
    | 0 => ⟨0, by decide⟩
    | 1 => x 0
    | 2 => x 1

theorem reshape_unit (h : S32x512.numel = S1x32x512.numel) (x : S32x512.Idx) : Shape.reshapeEquiv h x = unitIx x := by
  refine Shape.reshapeEquiv_eq_of_rowMajor h ?_
  rw [Shape.rowMajor_val_three, Shape.rowMajor_val_two]
  show (0 * 32 + (x 0).val) * 512 + (x 1).val = (x 0).val * 512 + (x 1).val
  omega

theorem emb_ownC (p : Fin 16) (x : S32x512.Idx) : (ownC p).view.emb x = rowIx p (x 0) (x 1) := emb_rows p x
theorem emb_outC (p : Fin 16) (x : S32x512.Idx) : (outC p).view.emb x = rowIx p (x 0) (x 1) := emb_rows p x
theorem emb_comC (p : Fin 16) (x : S32x512.Idx) : (comC p).view.emb x = slotIx p (x 0) (x 1) := by
  show (slotR p).emb (Shape.reshapeEquiv _ x) = _
  rw [reshape_unit, emb_slot]; rfl

/-- What the first transfer from `c` to `p` leaves in `p`'s slot `c`. -/
theorem sent1 (c p : Dev nD) (fd : (cc0_scratch1 : Ref sig .tc).ty.Contents (Elt F)) :
    ∀ i ∈ (comC c).view.set, (comC c).view.write (Elt F) fd ((ownC p).view.read (Elt F) (ownF m ρ c)) Finset.univ i = comF m ρ p i := by
  intro i hi
  obtain ⟨x, -, rfl⟩ := Finset.mem_map.mp hi
  rw [View.write_emb_of_mem _ _ (Finset.mem_univ _), View.read_apply, emb_comC, emb_ownC]
  rfl

/-- What the second transfer of chunk `c` leaves in the other device's chunk `c`. -/
theorem sent2 (c : Dev nD) (fd : (cc0_stg4_0 : Ref sig .tc).ty.Contents (Elt F)) :
    ∀ i ∈ (outC c).view.set, (outC c).view.write (Elt F) fd ((outC c).view.read (Elt F) (outF m ρ)) Finset.univ i = outF m ρ i := by
  intro i hi
  obtain ⟨x, -, rfl⟩ := Finset.mem_map.mp hi
  rw [View.write_emb_of_mem _ _ (Finset.mem_univ _), View.read_apply]
  rfl

/-- What the store of the sum leaves in chunk `c` of the result. -/
theorem stored (c : Dev nD) (fd : (cc0_stg4_0 : Ref sig .tc).ty.Contents (Elt F)) :
    ∀ i ∈ (outC c).view.set, (outM.access (rowsR c)).write (Elt F) fd (redF m ρ c) Finset.univ i = outF m ρ i := by
  intro i hi
  obtain ⟨x, -, rfl⟩ := Finset.mem_map.mp hi
  have h := View.write_emb_of_mem (v := outM.access (rowsR c)) (Val := Elt F) fd (redF m ρ c) (M := Finset.univ) (x := x) (Finset.mem_univ _)
  refine h.trans ?_
  rw [emb_outC]
  have h0 : (x 0).val < 32 := (x 0).isLt
  have hc : c.val < 16 := c.isLt
  show redF m ρ c x = redF m ρ ⟨(32 * c.val + (x 0).val) / 32, _⟩ _
  congr 1
  · exact Fin.ext (by show c.val = (32 * c.val + (x 0).val) / 32; omega)
  · funext a
    fin_cases a
    · exact Fin.ext (by show (x 0).val = (32 * c.val + (x 0).val) % 32; omega)
    · rfl

/-- A load of slot `s` of the landing buffer. -/
theorem load_slot (c : Dev nD) (s : Fin 16) :
    comM.view.readAt (Elt F) (slotR s).toLoadRect (comF m ρ c) = slotV m ρ c s := by
  funext x
  rw [View.readAt_apply]
  show comF m ρ c ((slotR s).emb x) = _
  rw [emb_slot]; rfl

/-- The load of the device's own chunk. -/
theorem load_own (c : Dev nD) :
    ownM.view.readAt (Elt F) (rowsR c).toLoadRect (ownF m ρ c) = ownV m ρ c := by
  funext x
  rw [View.readAt_apply]
  show ownF m ρ c ((rowsR c).emb x) = _
  rw [emb_rows]; rfl

/-! ## The pieces held -/

/-- Chunk `p` of device `c`'s partial result, holding `f`. -/
def ownPt (c : Dev nD) (p : Fin 16) (f : (cc0_scratch0 : Ref sig .tc).ty.Contents (Elt F)) : sProp 𝕄 :=
  (ownC p).view.loc (c : Thread nD τ) ↦[(ownC p).view.set]{fullShare} f
/-- Slot `p` of device `c`'s landing buffer, holding `f`. -/
def comPt (c : Dev nD) (p : Fin 16) (f : (cc0_scratch1 : Ref sig .tc).ty.Contents (Elt F)) : sProp 𝕄 :=
  (comC p).view.loc (c : Thread nD τ) ↦[(comC p).view.set]{fullShare} f
/-- A share of chunk `p` of device `c`'s result, holding `f`. -/
def outPt (c : Dev nD) (p : Fin 16) (q : PosShare TreeShare) (f : (cc0_stg4_0 : Ref sig .tc).ty.Contents (Elt F)) : sProp 𝕄 :=
  (outC p).view.loc (c : Thread nD τ) ↦[(outC p).view.set]{q} f

instance ownPt_storable (c : Dev nD) (p f) : BI.Storable (upEmb : UEmb _ 𝕄) (ownPt (F := F) c p f) := by unfold ownPt; infer_instance
instance comPt_storable (c : Dev nD) (p f) : BI.Storable (upEmb : UEmb _ 𝕄) (comPt (F := F) c p f) := by unfold comPt; infer_instance
instance outPt_storable (c : Dev nD) (p q f) : BI.Storable (upEmb : UEmb _ 𝕄) (outPt (F := F) c p q f) := by unfold outPt; infer_instance

theorem own_split (c : Dev nD) (f : (cc0_scratch0 : Ref sig .tc).ty.Contents (Elt F)) :
    (((c : Thread nD τ).loc cc0_scratch0) ↦{fullShare} f : sProp 𝕄) = bigSep Finset.univ fun p : Fin 16 => ownPt c p f := by
  unfold ownPt
  rw [← rows_cover, pointsTo_biUnion _ _ fun p _ q _ h => rows_disjoint h]
  exact bigSep_congr fun p _ => by rw [set_ownC]
theorem com_split (c : Dev nD) (f : (cc0_scratch1 : Ref sig .tc).ty.Contents (Elt F)) :
    (((c : Thread nD τ).loc cc0_scratch1) ↦{fullShare} f : sProp 𝕄) = bigSep Finset.univ fun p : Fin 16 => comPt c p f := by
  unfold comPt
  rw [← slots_cover, pointsTo_biUnion _ _ fun p _ q _ h => slots_disjoint h]
  exact bigSep_congr fun p _ => by rw [set_comC]
theorem out_split (c : Dev nD) (f : (cc0_stg4_0 : Ref sig .tc).ty.Contents (Elt F)) :
    (((c : Thread nD τ).loc cc0_stg4_0) ↦{fullShare} f : sProp 𝕄) = bigSep Finset.univ fun p : Fin 16 => outPt c p fullShare f := by
  unfold outPt
  rw [← rows_cover, pointsTo_biUnion _ _ fun p _ q _ h => rows_disjoint h]
  exact bigSep_congr fun p _ => by rw [set_outC]

/-- The share of its own chunk a device lends its `k`-th transfer, and the one it keeps. -/
def lent (k : Fin 15) : PosShare TreeShare := ShareLeaves.leaf 4 fullShare ⟨k.val, Nat.lt_of_lt_of_le k.isLt (by decide)⟩
def kept : PosShare TreeShare := ShareLeaves.leaf 4 fullShare ⟨15, by decide⟩

theorem out_shares (c : Dev nD) (p : Fin 16) (f : (cc0_stg4_0 : Ref sig .tc).ty.Contents (Elt F)) :
    outPt c p fullShare f = iprop(outPt c p kept f ∗ bigSep Finset.univ fun k : Fin 15 => outPt c p (lent k) f) := by
  unfold outPt
  refine (ShareLeaves.pointsTo_leaves _ _ 4 fullShare).trans ?_
  rw [show (Finset.univ : Finset (Fin (2 ^ 4))) = insert ⟨15, by decide⟩ ((Finset.univ : Finset (Fin 15)).map
    (Fin.castLEEmb (by decide))) from by decide]
  rw [bigSep_insert (by decide), bigSep_map]
  rfl

end Cert.KernelIdealProof

end
-- ==== Proof.KernelIdeal.Sched.lean ====
/-
# The protocol: who pays which semaphore, what comes with it, what each device owes

A device's barrier semaphore collects one unit from every other device, each bringing that device's slot and
result chunk that this device writes. A transfer's send semaphore gives the source back, its receive semaphore the
filled destination.
-/
module

public import proofs.«01_k».proof.Proof.KernelIdeal.Contents

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- The devices that pay semaphore `k` of device `c`. -/
def dutiesK (c : Dev nD) : KC → Finset (Dev nD)
  | .inl _ => Finset.univ.erase c
  | .inr (.inl _) => {c}
  | .inr (.inr (.inl s)) => if s = c then ∅ else {s}
  | .inr (.inr (.inr s)) => if s = c then ∅ else {s}

/-- How much each pays. -/
def amountK : KC → ℕ
  | .inl _ => 1
  | .inr _ => N

/-- What device `p`'s payment brings device `c`. -/
def payK (c : Dev nD) : KC → Dev nD → sProp 𝕄
  | .inl _, p => iprop((∃ f, comPt p c f) ∗ ∃ f, outPt p c fullShare f)
  | .inr (.inl (.inl k)), _ => ownPt c (peer c k) (ownF m ρ c)
  | .inr (.inl (.inr k)), _ => outPt c c (lent k) (outF m ρ)
  | .inr (.inr (.inl s)), _ => comPt c s (comF m ρ c)
  | .inr (.inr (.inr s)), _ => outPt c s fullShare (outF m ρ)

instance payK_storable (c : Dev nD) (k : KC) (p : Dev nD) : BI.Storable (upEmb : UEmb _ 𝕄) (payK (F := F) m ρ c k p) := by
  rcases k with _ | (_ | _) | (_ | _) <;> (unfold payK; infer_instance)

/-- One round, with those payers, amounts and payloads. -/
def sched : Rounds.Schedule (GSem nD τ sig) (Dev nD) 𝕄 where
  duties g r := if r = 0 ∧ g.1.2 = .tc then (match kind g.2 with | some k => dutiesK g.1.1 k | none => ∅) else ∅
  unitless _ := False
  amount g _ _ := match kind g.2 with | some k => amountK k | none => 1
  payload g _ d := match kind g.2 with | some k => payK m ρ g.1.1 k d | none => iprop(emp)
  amount_pos g _ _ _ := by
    rcases kind g.2 with _ | (_ | _)
    · exact Nat.one_pos
    · exact Nat.one_pos
    · exact N_pos

instance sched_payload_storable (g : GSem nD τ sig) (r : ℕ) (d : Dev nD) :
    BI.Storable (upEmb : UEmb _ 𝕄) ((sched (F := F) m ρ).payload g r d) := by
  show BI.Storable upEmb (match kind g.2 with | some k => payK m ρ g.1.1 k d | none => iprop(emp))
  split <;> infer_instance

theorem duties_eq (c : Dev nD) (k : KC) : (sched (F := F) m ρ).duties (kcell c k) 0 = dutiesK c k := by
  dsimp only [sched]; rw [if_pos ⟨rfl, rfl⟩, kind_csem]
theorem amount_eq (c : Dev nD) (k : KC) (d : Dev nD) : (sched (F := F) m ρ).amount (kcell c k) 0 d = amountK k := by
  dsimp only [sched]; rw [kind_csem]
theorem payload_eq (c : Dev nD) (k : KC) (d : Dev nD) : (sched (F := F) m ρ).payload (kcell c k) 0 d = payK m ρ c k d := by
  dsimp only [sched]; rw [kind_csem]
theorem duties_later (g : GSem nD τ sig) : ∀ r, 1 ≤ r → (sched (F := F) m ρ).duties g r = ∅ :=
  fun r hr => by dsimp only [sched]; rw [if_neg fun h => by omega]
theorem duties_none (c : Dev nD) (k : KC) (h : dutiesK c k = ∅) : ∀ r, 0 ≤ r → (sched (F := F) m ρ).duties (kcell c k) r = ∅ := by
  intro r _
  rcases Nat.eq_zero_or_pos r with rfl | hr
  · rw [duties_eq, h]
  · exact duties_later m ρ _ r hr

theorem expect_bar (c : Dev nD) : (sched (F := F) m ρ).expect (kcell c kB) 0 = 15 := by
  unfold Schedule.expect Schedule.amountOf
  rw [duties_eq, Finset.sum_congr rfl fun d _ => amount_eq m ρ c kB d, Finset.sum_const, smul_eq_mul]
  show (Finset.univ.erase c).card * 1 = 15
  rw [Finset.card_erase_of_mem (Finset.mem_univ c)]; rfl
theorem expect_dma (c : Dev nD) (o : OC) (d : Dev nD) (h : dutiesK c (.inr o) = {d}) : (sched (F := F) m ρ).expect (kcell c (.inr o)) 0 = N := by
  unfold Schedule.expect Schedule.amountOf
  rw [duties_eq, h, Finset.sum_singleton, amount_eq]; rfl

theorem rest_eq (c : Dev nD) (k : KC) :
    bigSep ((sched (F := F) m ρ).duties (kcell c k) 0 \ ∅) (fun d => (sched (F := F) m ρ).payload (kcell c k) 0 d)
      = bigSep (dutiesK c k) (payK m ρ c k) := by
  rw [Finset.sdiff_empty, duties_eq]
  exact bigSep_congr fun d _ => payload_eq m ρ c k d

theorem dutiesK_r1 (c : Dev nD) (k : Fin 15) : dutiesK c (kR1 (peer c k)) = {peer c k} := if_neg (peer_ne c k)
theorem dutiesK_r2 (c : Dev nD) (k : Fin 15) : dutiesK c (kR2 (peer c k)) = {peer c k} := if_neg (peer_ne c k)
theorem dutiesK_r1' (c : Dev nD) (k : Fin 15) : dutiesK (peer c k) (kR1 c) = {c} := if_neg (peer_ne c k).symm
theorem dutiesK_r2' (c : Dev nD) (k : Fin 15) : dutiesK (peer c k) (kR2 c) = {c} := if_neg (peer_ne c k).symm
theorem mem_dutiesK_bar (c : Dev nD) (k : Fin 15) : c ∈ dutiesK (peer c k) kB :=
  Finset.mem_erase.mpr ⟨(peer_ne c k).symm, Finset.mem_univ _⟩

/-! ## The peers not yet served, and those served -/

/-- The peers from the `k`-th on. -/
def tail (k : ℕ) : Finset (Fin 15) := Finset.univ.filter (k ≤ ·.val)
/-- The peers before the `k`-th. -/
def done (k : ℕ) : Finset (Fin 15) := Finset.univ.filter (·.val < k)

theorem tail_zero : tail 0 = Finset.univ := by decide
theorem tail_end : tail 15 = ∅ := by decide
theorem done_zero : done 0 = ∅ := by decide
theorem done_end : done 15 = Finset.univ := by decide
theorem not_mem_tail (k : Fin 15) : k ∉ tail (k.val + 1) := by revert k; decide
theorem tail_succ (k : Fin 15) : tail k.val = insert k (tail (k.val + 1)) := by revert k; decide
theorem not_mem_done (k : Fin 15) : k ∉ done k.val := by revert k; decide
theorem done_succ (k : Fin 15) : done (k.val + 1) = insert k (done k.val) := by revert k; decide

theorem bigSep_tail {M : Type} [URA M] (k : Fin 15) (Φ : Fin 15 → sProp M) :
    bigSep (tail k.val) Φ = iprop(Φ k ∗ bigSep (tail (k.val + 1)) Φ) := by
  rw [tail_succ, bigSep_insert (not_mem_tail k)]; rfl
theorem bigSep_done {M : Type} [URA M] (k : Fin 15) (Φ : Fin 15 → sProp M) :
    bigSep (done (k.val + 1)) Φ = iprop(Φ k ∗ bigSep (done k.val) Φ) := by
  rw [done_succ, bigSep_insert (not_mem_done k)]; rfl

/-! ## What a device owes -/

/-- The barrier units, first transfers and second transfers still owed to the peers from the given ones on. -/
def oB (c : Dev nD) (k : ℕ) : CellTallies nD τ sig Unit := ∑ j ∈ tail k, tallyAt (kcell (peer c j) kB) () 1
def o1 (c : Dev nD) (k : ℕ) : CellTallies nD τ sig Unit := ∑ j ∈ tail k, tallyAt (kcell (peer c j) (kR1 c)) () N
def o2 (c : Dev nD) (k : ℕ) : CellTallies nD τ sig Unit := ∑ j ∈ tail k, tallyAt (kcell (peer c j) (kR2 c)) () N
def owe (c : Dev nD) (a b d : ℕ) : CellTallies nD τ sig Unit := oB c a + o1 c b + o2 c d

theorem add_front {A : Type} [AddCommMonoid A] (t s x y : A) : t + s + x + y = s + x + y + t := by
  simp only [add_assoc, add_comm, add_left_comm]
theorem add_middle {A : Type} [AddCommMonoid A] (t s x y : A) : x + (t + s) + y = x + s + y + t := by
  simp only [add_assoc, add_comm, add_left_comm]
theorem add_back {A : Type} [AddCommMonoid A] (t s x y : A) : x + y + (t + s) = x + y + s + t := by
  simp only [add_assoc, add_comm, add_left_comm]

theorem owe_bar (c : Dev nD) (k : Fin 15) (b d : ℕ) :
    owe c k.val b d = owe c (k.val + 1) b d + tallyAt (kcell (peer c k) kB) () 1 := by
  unfold owe oB
  rw [tail_succ, Finset.sum_insert (not_mem_tail k)]; exact (add_front _ _ _ _)
theorem owe_one (c : Dev nD) (a : ℕ) (k : Fin 15) (d : ℕ) :
    owe c a k.val d = owe c a (k.val + 1) d + tallyAt (kcell (peer c k) (kR1 c)) () N := by
  unfold owe o1
  rw [tail_succ, Finset.sum_insert (not_mem_tail k)]; exact (add_middle _ _ _ _)
theorem owe_two (c : Dev nD) (a b : ℕ) (k : Fin 15) :
    owe c a b k.val = owe c a b (k.val + 1) + tallyAt (kcell (peer c k) (kR2 c)) () N := by
  unfold owe o2
  rw [tail_succ, Finset.sum_insert (not_mem_tail k)]; exact (add_back _ _ _ _)
theorem owe_none (c : Dev nD) : owe c 15 15 15 = 0 := by
  unfold owe oB o1 o2
  rw [tail_end, Finset.sum_empty, Finset.sum_empty, Finset.sum_empty, add_zero, add_zero]

theorem sum_tally_pos {S : Finset (Fin 15)} {f : Fin 15 → GSem nD τ sig} {n : ℕ} {g : GSem nD τ sig} {u : Unit}
    (h : 0 < (∑ j ∈ S, tallyAt (f j) () n : CellTallies nD τ sig Unit) g u) : ∃ j ∈ S, g = f j := by
  by_contra hn
  refine absurd h ?_
  rw [Finset.sum_apply, Finsupp.finset_sum_apply, Finset.sum_eq_zero]
  · exact Nat.lt_irrefl 0
  · intro j hj
    rw [tallyAt_apply, if_neg]
    exact fun h' => hn ⟨j, hj, h'.1⟩

theorem owe_pos {c : Dev nD} {a b d : ℕ} {g : GSem nD τ sig} {u : Unit} (h : 0 < owe c a b d g u) :
    (∃ j ∈ tail a, g = kcell (peer c j) kB) ∨ (∃ j ∈ tail b, g = kcell (peer c j) (kR1 c)) ∨ (∃ j ∈ tail d, g = kcell (peer c j) (kR2 c)) := by
  unfold owe at h
  rw [Pi.add_apply, Finsupp.add_apply, Pi.add_apply, Finsupp.add_apply] at h
  rcases Nat.eq_zero_or_pos (oB c a g u) with h1 | h1
  · rcases Nat.eq_zero_or_pos (o1 c b g u) with h2 | h2
    · rw [h1, h2, Nat.zero_add] at h
      exact .inr (.inr (sum_tally_pos h))
    · exact .inr (.inl (sum_tally_pos h2))
  · exact .inl (sum_tally_pos h1)

/-! ## Levels -/

def L (g : GSem nD τ sig) : Finset Unit := if g.1.2 = .tc then {()} else ∅
/-- Sends below barriers below first receives below second receives. -/
def lvK : KC → ℕ
  | .inl _ => 1
  | .inr (.inl _) => 0
  | .inr (.inr (.inl _)) => 2
  | .inr (.inr (.inr _)) => 3
def lv (g : GSem nD τ sig) (_ : Unit) : ℕ := match kind g.2 with | some k => lvK k | none => 0

theorem lv_kcell (c : Dev nD) (k : KC) (u : Unit) : lv (kcell c k) u = lvK k := by
  dsimp only [lv]; rw [kind_csem]
theorem L_of_ne (g : GSem nD τ sig) (h : g.1.2 ≠ .tc) : L g = ∅ := if_neg h
theorem L_tc (c : Dev nD) (sm : SemLoc sig) : L ((c : Thread nD τ), sm) = {()} := if_pos rfl

/-- A wait is allowed below everything its device owes. -/
theorem mayWait_below (c : Dev nD) (sm : SemLoc sig) (a b d : ℕ) (l : ℕ) (hl : lv ((c : Thread nD τ), sm) () ≤ l)
    (ha : (tail a).Nonempty → l < 1) (hb : (tail b).Nonempty → l < 2) (hd : (tail d).Nonempty → l < 3) :
    (levAts L lv : sProp 𝕄) ⊢ MayWait (c : Thread nD τ) sm () (owe c a b d) := by
  refine MayOwe.of_cut (L := L) (lev := lv) l (fun p hp => by rw [Finset.mem_singleton.mp hp, L_tc]; exact Finset.mem_singleton_self _)
    (fun g u hg => ?_) (fun p hp => by rw [Finset.mem_singleton.mp hp]; exact hl) (fun g u hg => ?_)
  · rcases owe_pos hg with ⟨j, _, rfl⟩ | ⟨j, _, rfl⟩ | ⟨j, _, rfl⟩ <;> (rw [L_tc]; exact Finset.mem_singleton_self _)
  · rcases owe_pos hg with ⟨j, hj, rfl⟩ | ⟨j, hj, rfl⟩ | ⟨j, hj, rfl⟩
    · rw [lv_kcell]; exact ha ⟨j, hj⟩
    · rw [lv_kcell]; exact hb ⟨j, hj⟩
    · rw [lv_kcell]; exact hd ⟨j, hj⟩

theorem tail_end_empty : ¬ (tail 15).Nonempty := by decide

theorem mayWait_bar (c : Dev nD) : (levAts L lv : sProp 𝕄) ⊢ MayWait (c : Thread nD τ) (csem kB) () (owe c 15 0 0) :=
  mayWait_below c _ 15 0 0 1 (by rw [lv_kcell]; exact Nat.le_refl _) (fun h => absurd h tail_end_empty) (fun _ => by decide) (fun _ => by decide)
theorem mayWait_r1 (c : Dev nD) (s : Fin 16) : (levAts L lv : sProp 𝕄) ⊢ MayWait (c : Thread nD τ) (csem (kR1 s)) () (owe c 15 15 0) :=
  mayWait_below c _ 15 15 0 2 (by rw [lv_kcell]; exact Nat.le_refl _) (fun h => absurd h tail_end_empty) (fun h => absurd h tail_end_empty) (fun _ => by decide)
theorem mayWait_last (c : Dev nD) (sm : SemLoc sig) : (levAts L lv : sProp 𝕄) ⊢ MayWait (c : Thread nD τ) sm () (owe c 15 15 15) :=
  mayWait_below c _ 15 15 15 _ (Nat.le_refl _) (fun h => absurd h tail_end_empty) (fun h => absurd h tail_end_empty) (fun h => absurd h tail_end_empty)

/-! ## The persistent records -/

/-- Every cell's invariant, under the names `K`, and that each has reached its round. -/
def recs (K : Dev nD × KC → ℕ) : sProp 𝕄 :=
  iprop((bigSep Finset.univ fun x : Dev nD × KC => cellInv EX (sched m ρ) (K x) (kcell x.1 x.2))
    ∗ bigSep Finset.univ fun x : Dev nD × KC => reached EX (kcell x.1 x.2) 0)

instance recs_persistent (K : Dev nD × KC → ℕ) : BI.Persistent (recs (F := F) m ρ K) := by unfold recs; infer_instance

theorem recs_inv (K : Dev nD × KC → ℕ) (c : Dev nD) (k : KC) : recs (F := F) m ρ K ⊢ cellInv EX (sched m ρ) (K (c, k)) (kcell c k) := by
  unfold recs
  iintro ⟨H, -⟩
  iapply (show bigSep Finset.univ (fun x : Dev nD × KC => cellInv EX (sched (F := F) m ρ) (K x) (kcell x.1 x.2))
    ⊢ cellInv EX (sched m ρ) (K (c, k)) (kcell c k) from bigSep_elim (Finset.mem_univ (c, k))) $$ H
theorem recs_reached (K : Dev nD × KC → ℕ) (c : Dev nD) (k : KC) : recs (F := F) m ρ K ⊢ reached EX (kcell c k) 0 := by
  unfold recs
  iintro ⟨-, H⟩
  iapply (show bigSep Finset.univ (fun x : Dev nD × KC => (reached EX (kcell x.1 x.2) 0 : sProp 𝕄))
    ⊢ reached EX (kcell c k) 0 from bigSep_elim (Finset.mem_univ (c, k))) $$ H

/-- What every step uses: the records and the levels. -/
def ctx (K : Dev nD × KC → ℕ) : sProp 𝕄 := iprop(recs m ρ K ∗ levAts L lv)
instance ctx_persistent (K : Dev nD × KC → ℕ) : BI.Persistent (ctx (F := F) m ρ K) := by unfold ctx; infer_instance

end Cert.KernelIdealProof

end
-- ==== Proof.KernelIdeal.Steps.lean ====
/-
# The steps of the kernel's body

One lemma per kind of communication step, at any device and any peer: what the step needs, and what the rest of the
body may then use.
-/
module

public import proofs.«01_k».proof.Proof.KernelIdeal.Sched

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KC → ℕ)

abbrev 𝒱₀ : Variants := Variants.none

/-- A program run on device `c`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, at some record of its waits. -/
def owing (c : Dev nD) (O : CellTallies nD τ sig Unit) : sProp 𝕄 := iprop(∃ W, owes (c : Thread nD τ) O W)

/-- A loop over the peers that has served those before the `k`-th. -/
def Loop (c : Dev nD) (O : CellTallies nD τ sig Unit) (k : ℕ) (Φ Ψ : Fin 15 → sProp 𝕄) : sProp 𝕄 :=
  iprop(owing c O ∗ bigSep (tail k) Φ ∗ bigSep (done k) Ψ)

theorem comC_credit (p : Fin 16) : (comC p).view.dmaCredit = N := rfl
theorem outC_credit (p : Fin 16) : (outC p).view.dmaCredit = N := rfl

/-! ## The barrier -/

/-- What the unit for peer `j` takes: its duty, and the slot and the chunk that peer will write. -/
def sigNeed (c : Dev nD) (j : Fin 15) : sProp 𝕄 :=
  iprop(dutyTok EX (kcell (peer c j) kB) 0 c ∗ payK m ρ (peer c j) kB c)

/-- Signalling the `k`-th peer. -/
theorem sig_step (c : Dev nD) (k : Fin 15) {n : Dev nD} (hn : n = peer c k) {k' : ℕ} (hk : k' = 1) {α : Type} {Q : α → sProp 𝕄}
    {P : PUnit → Prog (TpuEff nD τ sig (Elt F) Λ₀ .tc) α} {R : sProp 𝕄}
    (h : iprop(ctx m ρ K ∗ Loop c (owe c (k.val + 1) 0 0) (k.val + 1) (sigNeed m ρ c) (fun _ => iprop(emp)) ∗ R) ⊢ Run c (P ⟨⟩) Q) :
    iprop(ctx m ρ K ∗ Loop c (owe c k.val 0 0) k.val (sigNeed m ρ c) (fun _ => iprop(emp)) ∗ R)
      ⊢ Run c (.op (.semSignal (n : Thread nD τ) barS k') P) Q := by
  subst hn hk
  unfold Loop owing ctx
  rw [bigSep_tail]
  unfold Loop owing ctx at h
  rw [bigSep_done] at h
  iintro ⟨⟨#Hrec, #Hlev⟩, ⟨⟨%W, HO⟩, ⟨Hk, Ht⟩, Hd⟩, HR⟩
  unfold sigNeed
  icases Hk with ⟨Htok, Hpay⟩
  iapply (Rounds.wp_signal 𝒱₀ EX (sched m ρ) (c : Thread nD τ) none (dst := (peer c k : Thread nD τ)) (κ := K (peer c k, kB))
      (d := c) (by rw [show (((peer c k : Dev nD) : Thread nD τ), SemLoc.reg barS) = kcell (peer c k) kB from rfl, duties_eq]; exact mem_dutiesK_bar c k)
      (amount_eq m ρ (peer c k) kB c) () (owe c (k.val + 1) 0 0) (owe_bar c k 0 0)) $$ [HO Htok Hpay]
  · isplitr; · iapply (recs_inv m ρ K (peer c k) kB); iexact Hrec
    isplitl [HO]; · iexact HO
    isplitl [Htok]; · iexact Htok
    isplitl [Hpay]; · rw [show (((peer c k : Dev nD) : Thread nD τ), SemLoc.reg barS) = kcell (peer c k) kB from rfl, payload_eq]; iexact Hpay
    iapply (recs_reached m ρ K (peer c k) kB); iexact Hrec
  iintro HO
  iapply h
  isplitr; · isplitr <;> iassumption
  isplitl [HO Ht Hd]
  · isplitl [HO]; · iexists W; iexact HO
    isplitl [Ht]; · iexact Ht
    isplitr; · iempintro
    iexact Hd
  iexact HR

/-- The wait for all fifteen units: every peer's slot and chunk for this device. -/
theorem bar_step (c : Dev nD) {k' : ℕ} (hk : k' = 15) {α : Type} {Q : α → sProp 𝕄}
    {P : PUnit → Prog (TpuEff nD τ sig (Elt F) Λ₀ .tc) α} {R : sProp 𝕄}
    (h : iprop(ctx m ρ K ∗ owing c (owe c 15 0 0) ∗ semVal (kcell c kB) 0 ∗ (bigSep Finset.univ fun j => payK m ρ c kB (peer c j)) ∗ R) ⊢ Run c (P ⟨⟩) Q) :
    iprop(ctx m ρ K ∗ owing c (owe c 15 0 0) ∗ cred (tallyAt (kcell c kB) () 15) ∗ atPos EX (kcell c kB) 0 ∅ 0 ∗ R)
      ⊢ Run c (.op (.semWait barS k') P) Q := by
  subst hk
  unfold owing ctx
  unfold owing ctx at h
  iintro ⟨⟨#Hrec, #Hlev⟩, ⟨%W, HO⟩, Hc, Hat, HR⟩
  ihave #Hinv := (recs_inv m ρ K c kB) $$ Hrec
  iapply (Rounds.wp_wait_rest_token 𝒱₀ EX (sched m ρ) (c : Thread nD τ) none (κ := K (c, kB))
      (wpE_semWait_eq 𝒱₀ (c : Thread nD τ) none Set.univ) (Set.mem_univ _) () (O := owe c 15 0 0) (W := W) (R := 0) (m := 0) (T := ∅)
      (by rw [Nat.zero_add]; exact (expect_bar m ρ c).symm)) $$ [Hc HO Hat]
  · isplitr; · iexact Hinv
    isplitl [Hc]; · iexact Hc
    isplitl [HO]; · iexact HO
    isplitr; · iapply (mayWait_bar c); iexact Hlev
    iexact Hat
  iintro ⟨HO, Hat, -, Hpay⟩
  ihave Hp := (show (bigSep ((sched m ρ).duties ((c : Thread nD τ), SemLoc.reg barS) 0 \ ∅) fun d => (sched m ρ).payload ((c : Thread nD τ), SemLoc.reg barS) 0 d)
      ⊢ (bigSep Finset.univ fun j => payK m ρ c kB (peer c j)) from
    Entails.of_eq ((rest_eq m ρ c kB).trans (bigSep_peers c _))) $$ Hpay
  imod (Rounds.cell_close EX (sched m ρ) (Set.mem_univ (K (c, kB))) (fun h => h) (R := 0 + 1) (duties_later m ρ (kcell c kB))) $$ [Hat] with Hz
  · isplitr; · iexact Hinv
    iexact Hat
  iapply h
  isplitr; · isplitr <;> iassumption
  isplitl [HO]; · iexists _; iexact HO
  isplitl [Hz]; · iexact Hz
  isplitl [Hp]; · iexact Hp
  iexact HR

/-! ## Waits on transfers -/

/-- What waiting on the `j`-th of a family of cells takes. -/
def waitNeed (c : Dev nD) (o : Fin 15 → OC) (j : Fin 15) : sProp 𝕄 :=
  iprop(cred (tallyAt (kcell c (.inr (o j))) () N) ∗ atPos EX (kcell c (.inr (o j))) 0 ∅ 0)
/-- What it gives: the counter, closed, and the payload. -/
def waitGot (c : Dev nD) (o : Fin 15 → OC) (d : Fin 15 → Dev nD) (j : Fin 15) : sProp 𝕄 :=
  iprop(semVal (kcell c (.inr (o j))) 0 ∗ payK m ρ c (.inr (o j)) (d j))

/-- Waiting on the `k`-th of a family of transfer cells with one payer each. -/
theorem wait_step (c : Dev nD) (o : Fin 15 → OC) (d : Fin 15 → Dev nD) (hd : ∀ j, dutiesK c (.inr (o j)) = {d j})
    (O : CellTallies nD τ sig Unit) (hmay : ∀ j, (levAts L lv : sProp 𝕄) ⊢ MayWait (c : Thread nD τ) (csem (.inr (o j))) () O)
    (k : Fin 15) {q : DmaSem sig} (hq : q = odma (o k)) {s s' : Shape} {e e' : EltTy} {src : Memref sig .tc .vmem s e} {dst : Memref sig .tc .vmem s' e'}
    {h1 : src.view.WordExact} {h2 : dst.view.WordExact} (hN : dst.view.dmaCredit = N) {α : Type} {Q : α → sProp 𝕄}
    {P : PUnit → Prog (TpuEff nD τ sig (Elt F) Λ₀ .tc) α} {R : sProp 𝕄}
    (h : iprop(ctx m ρ K ∗ Loop c O (k.val + 1) (waitNeed c o) (waitGot m ρ c o d) ∗ R) ⊢ Run c (P ⟨⟩) Q) :
    iprop(ctx m ρ K ∗ Loop c O k.val (waitNeed c o) (waitGot m ρ c o d) ∗ R)
      ⊢ Run c (.op (.waitDma2 q src dst h1 h2) P) Q := by
  subst hq
  unfold Loop owing ctx
  rw [bigSep_tail]
  unfold Loop owing ctx at h
  rw [bigSep_done] at h
  iintro ⟨⟨#Hrec, #Hlev⟩, ⟨⟨%W, HO⟩, ⟨Hk, Ht⟩, Hd⟩, HR⟩
  unfold waitNeed
  icases Hk with ⟨Hc, Hat⟩
  ihave #Hinv := (recs_inv m ρ K c (.inr (o k))) $$ Hrec
  iapply (Rounds.wp_wait_rest_token 𝒱₀ EX (sched m ρ) (c : Thread nD τ) none (κ := K (c, .inr (o k)))
      (wpE_waitDma2_eq 𝒱₀ (c : Thread nD τ) none Set.univ) (Set.mem_univ _) () (O := O) (W := W) (R := 0) (m := 0) (T := ∅)
      (by rw [Nat.zero_add, hN]; exact (expect_dma m ρ c (o k) (d k) (hd k)).symm)) $$ [Hc HO Hat]
  · isplitr; · iexact Hinv
    isplitl [Hc]; · rw [hN]; iexact Hc
    isplitl [HO]; · iexact HO
    isplitr; · iapply (hmay k); iexact Hlev
    iexact Hat
  iintro ⟨HO, Hat, -, Hpay⟩
  ihave Hp := (show (bigSep ((sched m ρ).duties ((c : Thread nD τ), SemLoc.dma (odma (o k))) 0 \ ∅) fun d => (sched m ρ).payload ((c : Thread nD τ), SemLoc.dma (odma (o k))) 0 d)
      ⊢ payK m ρ c (.inr (o k)) (d k) from
    Entails.of_eq ((rest_eq m ρ c (.inr (o k))).trans ((congrArg (fun S => bigSep S (payK m ρ c (.inr (o k)))) (hd k)).trans bigSep_singleton))) $$ Hpay
  imod (Rounds.cell_close EX (sched m ρ) (Set.mem_univ (K (c, .inr (o k)))) (fun h => h) (R := 0 + 1) (duties_later m ρ (kcell c (.inr (o k))))) $$ [Hat] with Hz
  · isplitr; · iexact Hinv
    iexact Hat
  iapply h
  isplitr; · isplitr <;> iassumption
  isplitl [HO Ht Hd Hp Hz]
  · isplitl [HO]; · iexists _; iexact HO
    isplitl [Ht]; · iexact Ht
    isplitl [Hp Hz]
    · unfold waitGot
      isplitl [Hz]; · iexact Hz
      iexact Hp
    iexact Hd
  iexact HR

/-! ## Transfers -/

/-- What the first transfer to peer `j` takes: the source chunk, that peer's slot, the two duties. -/
def need1 (c : Dev nD) (j : Fin 15) : sProp 𝕄 :=
  iprop(ownPt c (peer c j) (ownF m ρ c) ∗ (∃ f, comPt (peer c j) c f)
    ∗ dutyTok EX (kcell c (kS1 j)) 0 c ∗ dutyTok EX (kcell (peer c j) (kR1 c)) 0 c)
def got1 (c : Dev nD) (j : Fin 15) : sProp 𝕄 := cred (tallyAt (kcell c (kS1 j)) () N)

/-- What the second transfer to peer `j` takes: a share of the chunk, that peer's chunk, the two duties. -/
def need2 (c : Dev nD) (j : Fin 15) : sProp 𝕄 :=
  iprop(outPt c c (lent j) (outF m ρ) ∗ (∃ f, outPt (peer c j) c fullShare f)
    ∗ dutyTok EX (kcell c (kS2 j)) 0 c ∗ dutyTok EX (kcell (peer c j) (kR2 c)) 0 c)
def got2 (c : Dev nD) (j : Fin 15) : sProp 𝕄 := cred (tallyAt (kcell c (kS2 j)) () N)

/-- A transfer of a chunk to a peer, for any source, destination and pair of cells. -/
theorem send_step (c n : Dev nD) (k : Fin 15) (a : Fin 15 → OC) (b : OC) (ha : c ∈ dutiesK c (.inr (a k))) (hb : c ∈ dutiesK n (.inr b))
    (src dst : Memref sig .tc .vmem S32x512 .bf16) (hN : dst.view.dmaCredit = N) {q : PosShare TreeShare}
    (fs : Buf (Elt F) (src.view.loc (c : Thread nD τ))) {O O' : CellTallies nD τ sig Unit}
    (hO : O = O' + tallyAt (kcell n (.inr b)) () N)
    (hp₁ : (src.view.loc (c : Thread nD τ) ↦[src.view.set]{q} fs) ⊢ payK m ρ c (.inr (a k)) c)
    (hp₂ : ∀ fd, (dst.view.loc (n : Thread nD τ) ↦[dst.view.set]{fullShare} dst.view.write (Elt F) fd (src.view.read (Elt F) fs) Finset.univ) ⊢ payK m ρ n (.inr b) c)
    {need : Fin 15 → sProp 𝕄}
    (hneed : need k ⊢ iprop((src.view.loc (c : Thread nD τ) ↦[src.view.set]{q} fs) ∗ (∃ fd, dst.view.loc (n : Thread nD τ) ↦[dst.view.set]{fullShare} fd)
      ∗ dutyTok EX (kcell c (.inr (a k))) 0 c ∗ dutyTok EX (kcell n (.inr b)) 0 c))
    {hsc : dst.view.ref.isScScratch = false} {hsrc : src.view.WordExact} {hdst : dst.view.WordExact}
    {hsem : DmaTarget.Typed .vmem (.dma (odma b)) (.remote (Dev.tc n : Thread nD τ) dst (.dma (odma (a k))) hsc)}
    {α : Type} {Q : α → sProp 𝕄} {P : PUnit → Prog (TpuEff nD τ sig (Elt F) Λ₀ .tc) α} {R : sProp 𝕄}
    (h : iprop(ctx m ρ K ∗ Loop c O' (k.val + 1) need (fun j => cred (tallyAt (kcell c (.inr (a j))) () N)) ∗ R) ⊢ Run c (P ⟨⟩) Q) :
    iprop(ctx m ρ K ∗ Loop c O k.val need (fun j => cred (tallyAt (kcell c (.inr (a j))) () N)) ∗ R)
      ⊢ Run c (.op (.enqueueDma src (.remote (Dev.tc n : Thread nD τ) dst (.dma (odma (a k))) hsc) (.dma (odma b)) hsrc hdst hsem) P) Q := by
  unfold Loop owing ctx
  rw [bigSep_tail]
  unfold Loop owing ctx at h
  rw [bigSep_done] at h
  iintro ⟨⟨#Hrec, #Hlev⟩, ⟨⟨%W, HO⟩, ⟨Hk, Ht⟩, Hd⟩, HR⟩
  ihave Hk' := hneed $$ Hk
  icases Hk' with ⟨Hsrc, ⟨%fd, Hdst⟩, Ht1, Ht2⟩
  iapply (Rounds.wp_send_pointsTo 𝒱₀ EX (sched m ρ) (c : Thread nD τ) none (κ₁ := K (c, .inr (a k))) (κ₂ := K (n, .inr b))
    (r₁ := 0) (r₂ := 0) (d₁ := c) (d₂ := c) (fd := fd)
    ((duties_eq m ρ c (.inr (a k))).symm ▸ ha) ((duties_eq m ρ n (.inr b)).symm ▸ hb)
    () () N (show dst.view.amount (SemLoc.dma (odma b)) = N from hN) (amount_eq m ρ c (.inr (a k)) c) (amount_eq m ρ n (.inr b) c) O' hO (W := W)
    (hp₁.trans (Entails.of_eq (payload_eq m ρ c (.inr (a k)) c).symm))
    ((hp₂ fd).trans (Entails.of_eq (payload_eq m ρ n (.inr b) c).symm))) $$ [Hsrc Hdst HO Ht1 Ht2]
  · isplitr; · iapply (recs_inv m ρ K c (.inr (a k))); iexact Hrec
    isplitr; · iapply (recs_inv m ρ K n (.inr b)); iexact Hrec
    isplitl [Hsrc]; · iexact Hsrc
    isplitl [Hdst]; · iexact Hdst
    isplitl [HO]; · iexact HO
    isplitl [Ht1]; · iexact Ht1
    isplitr; · iapply (recs_reached m ρ K c (.inr (a k))); iexact Hrec
    isplitl [Ht2]; · iexact Ht2
    iapply (recs_reached m ρ K n (.inr b)); iexact Hrec
  iintro ⟨Hc, HO⟩
  iapply h
  isplitr; · isplitr <;> iassumption
  isplitl [HO Ht Hd Hc]
  · isplitl [HO]; · iexists _; iexact HO
    isplitl [Ht]; · iexact Ht
    isplitl [Hc]; · iexact Hc
    iexact Hd
  iexact HR

/-- The first transfer to the `k`-th peer. -/
theorem send1_step (c : Dev nD) (k : Fin 15) {n : Dev nD} (hn : n = peer c k)
    {q q' : DmaSem sig} (hq : q = odma (.inl (.inl k))) (hq' : q' = odma (.inr (.inl c)))
    {offS : Fin 2 → ℕ} (hS : offS = ![32 * (peer c k).val, 0]) {inbS : ∀ a, offS a + S32x512.size a ≤ S512x512.size a}
    {offD : Fin 3 → ℕ} (hD : offD = ![c.val, 0, 0]) {inbD : ∀ a, offD a + S1x32x512.size a ≤ S16x32x512.size a}
    {hsc} {hsrc} {hdst} {hsem} {α : Type} {Q : α → sProp 𝕄}
    {P : PUnit → Prog (TpuEff nD τ sig (Elt F) Λ₀ .tc) α} {R : sProp 𝕄}
    (h : iprop(ctx m ρ K ∗ Loop c (owe c 15 (k.val + 1) 0) (k.val + 1) (need1 m ρ c) (got1 c) ∗ R) ⊢ Run c (P ⟨⟩) Q) :
    iprop(ctx m ρ K ∗ Loop c (owe c 15 k.val 0) k.val (need1 m ρ c) (got1 c) ∗ R)
      ⊢ Run c (.op (.enqueueDma (ownM.slice (Rect.unit (s := S512x512) offS S32x512.size inbS) (fun _ => rfl))
          (.remote (Dev.tc n : Thread nD τ) ((comM.slice (Rect.unit (s := S16x32x512) offD S1x32x512.size inbD) (fun _ => rfl)).squeeze S32x512 squeezes_S1x32x512_S32x512) (.dma q) hsc)
          (.dma q') hsrc hdst hsem) P) Q := by
  subst hn hq hq' hS hD
  exact send_step m ρ K c (peer c k) k (fun j => .inl (.inl j)) (.inr (.inl c)) (Finset.mem_singleton_self _)
    (by rw [show (Sum.inr (Sum.inr (Sum.inl c)) : KC) = kR1 c from rfl, dutiesK_r1']; exact Finset.mem_singleton_self _)
    (ownC (peer c k)) (comC c) (comC_credit c) (ownF m ρ c) (owe_one c 15 k 0) (Entails.of_eq rfl)
    (fun fd => Entails.of_eq (pointsTo_congr (sent1 m ρ c (peer c k) fd))) (need := need1 m ρ c) (Entails.of_eq rfl) h

/-- The second transfer to the `k`-th peer. -/
theorem send2_step (c : Dev nD) (k : Fin 15) {n : Dev nD} (hn : n = peer c k)
    {q q' : DmaSem sig} (hq : q = odma (.inl (.inr k))) (hq' : q' = odma (.inr (.inr c)))
    {off : Fin 2 → ℕ} (hS : off = ![32 * c.val, 0]) {inb : ∀ a, off a + S32x512.size a ≤ S512x512.size a}
    {hsc} {hsrc} {hdst} {hsem} {α : Type} {Q : α → sProp 𝕄}
    {P : PUnit → Prog (TpuEff nD τ sig (Elt F) Λ₀ .tc) α} {R : sProp 𝕄}
    (h : iprop(ctx m ρ K ∗ Loop c (owe c 15 15 (k.val + 1)) (k.val + 1) (need2 m ρ c) (got2 c) ∗ R) ⊢ Run c (P ⟨⟩) Q) :
    iprop(ctx m ρ K ∗ Loop c (owe c 15 15 k.val) k.val (need2 m ρ c) (got2 c) ∗ R)
      ⊢ Run c (.op (.enqueueDma (outM.slice (Rect.unit (s := S512x512) off S32x512.size inb) (fun _ => rfl))
          (.remote (Dev.tc n : Thread nD τ) (outM.slice (Rect.unit (s := S512x512) off S32x512.size inb) (fun _ => rfl)) (.dma q) hsc)
          (.dma q') hsrc hdst hsem) P) Q := by
  subst hn hq hq' hS
  exact send_step m ρ K c (peer c k) k (fun j => .inl (.inr j)) (.inr (.inr c)) (Finset.mem_singleton_self _)
    (by rw [show (Sum.inr (Sum.inr (Sum.inr c)) : KC) = kR2 c from rfl, dutiesK_r2']; exact Finset.mem_singleton_self _)
    (outC c) (outC c) (outC_credit c) (outF m ρ) (owe_two c 15 15 k) (Entails.of_eq rfl)
    (fun fd => Entails.of_eq (pointsTo_congr (sent2 m ρ c fd))) (need := need2 m ρ c) (Entails.of_eq rfl) h

end Cert.KernelIdealProof

end
-- ==== Proof.KernelIdeal.BodyA.lean ====
/-
# The handshake, and the device's own partial result
-/
module

public import proofs.«01_k».proof.Proof.KernelIdeal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KC → ℕ)

/-- The barrier's semaphore array. -/
abbrev barA : Sems sig S_ := SemArray.scalar (sig.barrier 0 rfl)

/-- Part 1: the first five units. -/
theorem part1 (c : Dev nD) {α : Type} {Q : α → sProp 𝕄} {P : (Σ' (d0 : Dev nD) (v2 : BitVec 32) (v3 : Sems sig S_) (v24 : BitVec 32), BitVec 32) → Prog (TpuEff nD τ sig (Elt F) Λ₀ .tc) α} {R : sProp 𝕄}
    (h : ∀ v24 v, iprop(ctx m ρ K ∗ Loop c (owe c 5 0 0) 5 (sigNeed m ρ c) (fun _ => iprop(emp)) ∗ R) ⊢ Run c (P ⟨c, wd c, barA, v24, v⟩) Q) :
    iprop(ctx m ρ K ∗ Loop c (owe c 0 0 0) 0 (sigNeed m ρ c) (fun _ => iprop(emp)) ∗ R)
      ⊢ Run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5  >>= P) Q := by
  rw [k0_part1_eq_skeleton]
  unfold k0_part1_skel
  simp only [semSignalWord, semWaitWord, Prog.lift, Prog.bind_op, Prog.bind_ret, Prog.pure_eq_ret, wp_deviceId]
  refine sig_step m ρ K c 0 (Fin.ext (k0_dev1_eq c)) rfl ?_
  refine sig_step m ρ K c 1 (Fin.ext (k0_dev2_eq c)) rfl ?_
  refine sig_step m ρ K c 2 (Fin.ext (k0_dev3_eq c)) rfl ?_
  refine sig_step m ρ K c 3 (Fin.ext (k0_dev4_eq c)) rfl ?_
  refine sig_step m ρ K c 4 (Fin.ext (k0_dev5_eq c)) rfl ?_
  exact h _ _

/-- Part 2: six more. -/
theorem part2 (c : Dev nD) (v24 v : BitVec 32) {α : Type} {Q : α → sProp 𝕄} {P : (Σ' (v48 : BitVec 32), BitVec 32) → Prog (TpuEff nD τ sig (Elt F) Λ₀ .tc) α} {R : sProp 𝕄}
    (h : ∀ v48 v, iprop(ctx m ρ K ∗ Loop c (owe c 11 0 0) 11 (sigNeed m ρ c) (fun _ => iprop(emp)) ∗ R) ⊢ Run c (P ⟨v48, v⟩) Q) :
    iprop(ctx m ρ K ∗ Loop c (owe c 5 0 0) 5 (sigNeed m ρ c) (fun _ => iprop(emp)) ∗ R)
      ⊢ Run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) barA v24 v >>= P) Q := by
  rw [k0_part2_eq_skeleton]
  unfold k0_part2_skel
  simp only [semSignalWord, semWaitWord, Prog.lift, Prog.bind_op, Prog.bind_ret, Prog.pure_eq_ret, wp_deviceId]
  refine sig_step m ρ K c 5 (Fin.ext (k0_dev6_eq c)) rfl ?_
  refine sig_step m ρ K c 6 (Fin.ext (k0_dev7_eq c)) rfl ?_
  refine sig_step m ρ K c 7 (Fin.ext (k0_dev8_eq c)) rfl ?_
  refine sig_step m ρ K c 8 (Fin.ext (k0_dev9_eq c)) rfl ?_
  refine sig_step m ρ K c 9 (Fin.ext (k0_dev10_eq c)) rfl ?_
  refine sig_step m ρ K c 10 (Fin.ext (k0_dev11_eq c)) rfl ?_
  exact h _ _

/-- A whole buffer of device `c`, holding `f`. -/
abbrev stgPt (c : Dev nD) (b : Ref sig .tc) (f : b.ty.Contents (Elt F)) : sProp 𝕄 := ((c : Thread nD τ).loc b) ↦{fullShare} f

theorem zero2 : (![0, 0] : Fin 2 → ℕ) = fun _ => 0 := funext fun a => by fin_cases a <;> rfl

/-- A load, at the value it reads. -/
theorem load_at (c : Dev nD) {cs : CoreSpace} {s : Shape} {e : EltTy} {mm : Memref sig .tc cs s e} {r : LoadRect s} {hl : mm.view.LoadsAt r}
    {α : Type} {P : (r.shape.Idx → Elt F e) → Prog (TpuEff nD τ sig (Elt F) Λ₀ .tc) α} {Q : α → sProp 𝕄}
    {S : Finset (Idx (mm.view.loc (c : Thread nD τ)))} {q : PosShare TreeShare} {f : Buf (Elt F) (mm.view.loc (c : Thread nD τ))}
    (hS : mm.view.setOn r.set ⊆ S) {v : r.shape.Idx → Elt F e} (hv : mm.view.readAt (Elt F) r f = v) :
    (mm.view.loc (c : Thread nD τ) ↦[S]{q} f) ⊢ iprop(((mm.view.loc (c : Thread nD τ) ↦[S]{q} f) -∗ Run c (P v) Q) -∗ Run c (.op (.load mm r hl) P) Q) := by
  subst hv
  exact wp_load 𝒱₀ (c : Thread nD τ) none Set.univ hS

/-- Part 3: the last four units; the tokens and the router are loaded. -/
theorem part3 (c : Dev nD) (v48 v : BitVec 32) {α : Type} {Q : α → sProp 𝕄} {P : (Σ' (v65 : FVec F S512x256 .bf16), FVec F S512x32 .f32) → Prog (TpuEff nD τ sig (Elt F) Λ₀ .tc) α} {R : sProp 𝕄}
    (h : iprop(ctx m ρ K ∗ Loop c (owe c 15 0 0) 15 (sigNeed m ρ c) (fun _ => iprop(emp)) ∗ stgPt c cc0_stg0_0 (xF m ρ c) ∗ stgPt c cc0_stg1_0 (rwF m ρ c) ∗ R) ⊢ Run c (P ⟨k0_pay1 (xF m ρ c), k0_pay2 (xF m ρ c) (rwF m ρ c)⟩) Q) :
    iprop(ctx m ρ K ∗ Loop c (owe c 11 0 0) 11 (sigNeed m ρ c) (fun _ => iprop(emp)) ∗ stgPt c cc0_stg0_0 (xF m ρ c) ∗ stgPt c cc0_stg1_0 (rwF m ρ c) ∗ R)
      ⊢ Run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) barA v48 v >>= P) Q := by
  rw [k0_part3_eq_skeleton]
  unfold k0_part3_skel
  simp only [semSignalWord, semWaitWord, Prog.lift, Prog.bind_op, Prog.bind_ret, Prog.pure_eq_ret, wp_deviceId]
  refine sig_step m ρ K c 11 (Fin.ext (k0_dev12_eq c)) rfl ?_
  refine sig_step m ρ K c 12 (Fin.ext (k0_dev13_eq c)) rfl ?_
  refine sig_step m ρ K c 13 (Fin.ext (k0_dev14_eq c)) rfl ?_
  refine sig_step m ρ K c 14 (Fin.ext (k0_dev15_eq c)) rfl ?_
  iintro ⟨#Hctx, HL, Hx, Hw, HR⟩
  iapply (load_at c (mm := (Memref.whole cc0_stg0_0 : Memref sig .tc .vmem S512x256 .bf16)) (Finset.subset_univ _) (Memref.readAt_unit_zero (Elt F) cc0_stg0_0 zero2 _ _)) $$ Hx; iintro Hx
  iapply (load_at c (mm := (Memref.whole cc0_stg1_0 : Memref sig .tc .vmem S256x32 .bf16)) (Finset.subset_univ _) (Memref.readAt_unit_zero (Elt F) cc0_stg1_0 zero2 _ _)) $$ Hw; iintro Hw
  iapply h
  isplitr; · iexact Hctx
  isplitl [HL]; · iexact HL
  isplitl [Hx]; · iexact Hx
  isplitl [Hw]; · iexact Hw
  iexact HR

/-- Part 4: the expert indices and the first expert are loaded. -/
theorem part4 (c : Dev nD) {α : Type} {Q : α → sProp 𝕄} {P : (Σ' (v81 : IVec S512x1 32) (v96 : FVec F S512x1 .f32) (v97 : FVec F S512x1 .f32) (v115 : FVec F S512x512 .f32) (v117 : BitVec 32) (v119 : IVec S512x1 1), FVec F S512x1 .f32) → Prog (TpuEff nD τ sig (Elt F) Λ₀ .tc) α} {R : sProp 𝕄}
    (h : iprop(stgPt c cc0_stg2_0 (ixF m ρ c) ∗ stgPt c cc0_stg3_0 (ewF m ρ c) ∗ R) ⊢ Run c (P ⟨k0_pay4 (ix1 m ρ c), k0_pay8 (k0_pay2 (xF m ρ c) (rwF m ρ c)) (ix0 m ρ c) (ix1 m ρ c),
      k0_pay9 (k0_pay2 (xF m ρ c) (rwF m ρ c)) (ix0 m ρ c) (ix1 m ρ c),
      k0_pay10 (wd c) (k0_pay1 (xF m ρ c)) (k0_pay2 (xF m ρ c) (rwF m ρ c)) (ix0 m ρ c) (ix1 m ρ c) (ew0 m ρ c),
      Scalar.addi (Scalar.muli (wd c) 2#32) 1#32, k0_pay11 (wd c) (ix0 m ρ c), k0_pay12 (F := F)⟩) Q) :
    iprop(stgPt c cc0_stg2_0 (ixF m ρ c) ∗ stgPt c cc0_stg3_0 (ewF m ρ c) ∗ R)
      ⊢ Run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (wd c) (k0_pay1 (xF m ρ c)) (k0_pay2 (xF m ρ c) (rwF m ρ c)) >>= P) Q := by
  rw [k0_part4_eq_skeleton]
  unfold k0_part4_skel
  simp only [semSignalWord, semWaitWord, Prog.lift, Prog.bind_op, Prog.bind_ret, Prog.pure_eq_ret, wp_deviceId]
  iintro ⟨Hi, He, HR⟩
  iapply (load_at c (mm := (Memref.whole cc0_stg2_0 : Memref sig .tc .vmem S512x2 .i32)) (Finset.subset_univ _) rfl) $$ Hi; iintro Hi
  iapply (load_at c (mm := (Memref.whole cc0_stg2_0 : Memref sig .tc .vmem S512x2 .i32)) (Finset.subset_univ _) rfl) $$ Hi; iintro Hi
  iapply (load_at c (mm := (Memref.whole cc0_stg3_0 : Memref sig .tc .vmem S2x256x512 .bf16)) (Finset.subset_univ _) rfl) $$ He; iintro He
  iapply h
  isplitl [Hi]; · iexact Hi
  isplitl [He]; · iexact He
  iexact HR

/-- What the wait for the fifteen units takes beside what is owed, and what the first round of transfers takes beside
    what that wait and the partial result give. -/
def barNeed (c : Dev nD) : sProp 𝕄 := iprop(cred (tallyAt (kcell c kB) () 15) ∗ atPos EX (kcell c kB) 0 ∅ 0)
def toks1 (c : Dev nD) : sProp 𝕄 :=
  bigSep Finset.univ fun j : Fin 15 => iprop(dutyTok EX (kcell c (kS1 j)) 0 c ∗ dutyTok EX (kcell (peer c j) (kR1 c)) 0 c)
/-- Every peer's chunk this device will write. -/
def outNeed (c : Dev nD) : sProp 𝕄 := bigSep Finset.univ fun j : Fin 15 => iprop(∃ f, outPt (F := F) (peer c j) c fullShare f)

/-- A family over the devices: this one's, and the peers'. -/
theorem split_one (c : Dev nD) (Φ : Dev nD → sProp 𝕄) : bigSep Finset.univ Φ = iprop(Φ c ∗ bigSep Finset.univ fun k => Φ (peer c k)) := by
  rw [← bigSep_peers]
  conv_lhs => rw [← Finset.insert_erase (Finset.mem_univ c), bigSep_insert (Finset.notMem_erase _ _)]
  rfl

/-- The first round of transfers is ready. -/
theorem start1 (c : Dev nD) :
    iprop(owing c (owe c 15 0 0) ∗ stgPt c cc0_scratch0 (ownF m ρ c) ∗ (bigSep Finset.univ fun j => payK m ρ c kB (peer c j)) ∗ toks1 (F := F) c)
      ⊢ iprop(Loop c (owe c 15 0 0) 0 (need1 m ρ c) (got1 c) ∗ ownPt c c (ownF m ρ c) ∗ outNeed (F := F) c) := by
  unfold Loop toks1 outNeed need1
  rw [tail_zero, done_zero, show stgPt c cc0_scratch0 (ownF m ρ c) = _ from own_split c _, split_one c, bigSep_empty]
  rw [show (bigSep Finset.univ fun j : Fin 15 => payK m ρ c kB (peer c j)) = iprop((bigSep Finset.univ fun j : Fin 15 => iprop(∃ f, comPt (F := F) (peer c j) c f))
      ∗ bigSep Finset.univ fun j : Fin 15 => iprop(∃ f, outPt (F := F) (peer c j) c fullShare f)) from bigSep_sep' _ _ _]
  simp only [bigSep_sep']
  iintro ⟨HO, ⟨Hc, Hp⟩, ⟨Hco, Hou⟩, Ht1, Ht2⟩
  isplitl [HO Hp Hco Ht1 Ht2]
  · isplitl [HO]; · iexact HO
    isplitl [Hp Hco Ht1 Ht2]
    · isplitl [Hp]; · iexact Hp
      isplitl [Hco]; · iexact Hco
      isplitl [Ht1]; · iexact Ht1
      iexact Ht2
    iempintro
  isplitl [Hc]; · iexact Hc
  iexact Hou

theorem write_own (f w : (cc0_scratch0 : Ref sig .tc).ty.Contents (Elt F)) :
    (ownM.access (Rect.unit (s := S512x512) ![0, 0] S512x512.size inb_S512x512_S512x512_0_0) : View sig .tc _ _ _).write (Elt F) f w Finset.univ = w :=
  Memref.write_access_unit_zero_univ (Elt F) cc0_scratch0 zero2 _ f w

/-- Part 5: the partial result is stored, every peer has entered, the first transfer starts. -/
theorem part5 (c : Dev nD) {α : Type} {Q : α → sProp 𝕄} {P : (BitVec 32) → Prog (TpuEff nD τ sig (Elt F) Λ₀ .tc) α} {R : sProp 𝕄}
    (h : ∀ v, iprop(ctx m ρ K ∗ Loop c (owe c 15 1 0) 1 (need1 m ρ c) (got1 c) ∗ (ownPt c c (ownF m ρ c) ∗ outNeed (F := F) c ∗ stgPt c cc0_stg3_0 (ewF m ρ c) ∗ semVal (kcell c kB) 0 ∗ R)) ⊢ Run c (P v) Q) :
    iprop(ctx m ρ K ∗ owing c (owe c 15 0 0) ∗ barNeed (F := F) c ∗ stgPt c cc0_stg3_0 (ewF m ρ c) ∗ (∃ f, stgPt (F := F) c cc0_scratch0 f) ∗ toks1 (F := F) c ∗ R)
      ⊢ Run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) barA (k0_pay1 (xF m ρ c)) (k0_pay4 (ix1 m ρ c)) (k0_pay8 (k0_pay2 (xF m ρ c) (rwF m ρ c)) (ix0 m ρ c) (ix1 m ρ c)) (k0_pay9 (k0_pay2 (xF m ρ c) (rwF m ρ c)) (ix0 m ρ c) (ix1 m ρ c)) (k0_pay10 (wd c) (k0_pay1 (xF m ρ c)) (k0_pay2 (xF m ρ c) (rwF m ρ c)) (ix0 m ρ c) (ix1 m ρ c) (ew0 m ρ c)) (Scalar.addi (Scalar.muli (wd c) 2#32) 1#32) (k0_pay11 (wd c) (ix0 m ρ c)) (k0_pay12 (F := F)) >>= P) Q := by
  rw [k0_part5_eq_skeleton]
  unfold k0_part5_skel
  simp only [semSignalWord, semWaitWord, Prog.lift, Prog.bind_op, Prog.bind_ret, Prog.pure_eq_ret, wp_deviceId]
  unfold barNeed
  iintro ⟨#Hctx, HO, ⟨Hcr, Hat⟩, He, ⟨%f, Hs⟩, Ht, HR⟩
  iapply (load_at c (mm := (Memref.whole cc0_stg3_0 : Memref sig .tc .vmem S2x256x512 .bf16)) (Finset.subset_univ _) rfl) $$ He; iintro He
  iapply (load_at c (mm := ownM) (Finset.subset_univ _) rfl) $$ Hs; iintro Hs
  iapply (wp_store 𝒱₀ (c : Thread nD τ) none Set.univ (m := ownM) (r := Rect.unit (s := S512x512) ![0, 0] S512x512.size inb_S512x512_S512x512_0_0)
    (Mk := Finset.univ) (Finset.subset_univ _)) $$ Hs; iintro Hs
  rw [write_own]
  iapply (bar_step m ρ K c (R := iprop(stgPt c cc0_scratch0 (ownF m ρ c) ∗ toks1 (F := F) c ∗ stgPt c cc0_stg3_0 (ewF m ρ c) ∗ R)) rfl ?_) $$ [Hcr Hat HO He Hs Ht HR]
  rotate_left
  · isplitr; · iexact Hctx
    isplitl [HO]; · iexact HO
    isplitl [Hcr]; · iexact Hcr
    isplitl [Hat]; · iexact Hat
    isplitl [Hs]; · iexact Hs
    isplitl [Ht]; · iexact Ht
    isplitl [He]; · iexact He
    iexact HR
  refine (show _ ⊢ iprop(ctx m ρ K ∗ Loop c (owe c 15 0 0) 0 (need1 m ρ c) (got1 c)
    ∗ (ownPt c c (ownF m ρ c) ∗ outNeed (F := F) c ∗ stgPt c cc0_stg3_0 (ewF m ρ c) ∗ semVal (kcell c kB) 0 ∗ R)) from ?_).trans ?_
  · iintro ⟨#Hctx, HO, Hz, Hp, Hs, Ht, He, HR⟩
    ihave H := (start1 m ρ c) $$ [HO Hs Hp Ht]
    · isplitl [HO]; · iexact HO
      isplitl [Hs]; · iexact Hs
      isplitl [Hp]; · iexact Hp
      iexact Ht
    icases H with ⟨HL, Hc, Hou⟩
    isplitr; · iexact Hctx
    isplitl [HL]; · iexact HL
    isplitl [Hc]; · iexact Hc
    isplitl [Hou]; · iexact Hou
    isplitl [He]; · iexact He
    isplitl [Hz]; · iexact Hz
    iexact HR
  refine send1_step m ρ K c 0 (Fin.ext (k0_dev16_eq c)) (s1_sem 0 _ rfl _) (r1_sem c _ (k0_off1_eq c) _) (k0_off3_eq c 0) (k0_off2_eq c) ?_
  exact h _

end Cert.KernelIdealProof

end
-- ==== Proof.KernelIdeal.BodyB.lean ====
/-
# The first round of transfers
-/
module

public import proofs.«01_k».proof.Proof.KernelIdeal.BodyA

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KC → ℕ)

/-- Part 6: first transfers 1 to 3. -/
theorem part6 (c : Dev nD) (v0 : BitVec 32) {α : Type} {Q : α → sProp 𝕄} {P : (Σ' (v187 : BitVec 32), BitVec 32) → Prog (TpuEff nD τ sig (Elt F) Λ₀ .tc) α} {R : sProp 𝕄}
    (h : ∀ v, iprop(ctx m ρ K ∗ Loop c (owe c 15 4 0) 4 (need1 m ρ c) (got1 c) ∗ R) ⊢ Run c (P ⟨v, 16#32⟩) Q) :
    iprop(ctx m ρ K ∗ Loop c (owe c 15 1 0) 1 (need1 m ρ c) (got1 c) ∗ R)
      ⊢ Run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 >>= P) Q := by
  rw [k0_part6_eq_skeleton]
  unfold k0_part6_skel
  simp only [semSignalWord, semWaitWord, Prog.lift, Prog.bind_op, Prog.bind_ret, Prog.pure_eq_ret, wp_deviceId]
  refine send1_step m ρ K c 1 (Fin.ext (k0_dev17_eq c)) (s1_sem 1 _ rfl _) (r1_sem c _ (k0_off1_eq c) _) (k0_off3_eq c 1) (k0_off2_eq c) ?_
  refine send1_step m ρ K c 2 (Fin.ext (k0_dev18_eq c)) (s1_sem 2 _ rfl _) (r1_sem c _ (k0_off1_eq c) _) (k0_off3_eq c 2) (k0_off2_eq c) ?_
  refine send1_step m ρ K c 3 (Fin.ext (k0_dev19_eq c)) (s1_sem 3 _ rfl _) (r1_sem c _ (k0_off1_eq c) _) (k0_off3_eq c 3) (k0_off2_eq c) ?_
  exact h _

/-- Part 7: first transfers 4 to 5. -/
theorem part7 (c : Dev nD) (v0 v1 : BitVec 32) {α : Type} {Q : α → sProp 𝕄} {P : (PUnit) → Prog (TpuEff nD τ sig (Elt F) Λ₀ .tc) α} {R : sProp 𝕄}
    (h : iprop(ctx m ρ K ∗ Loop c (owe c 15 6 0) 6 (need1 m ρ c) (got1 c) ∗ R) ⊢ Run c (P ⟨⟩) Q) :
    iprop(ctx m ρ K ∗ Loop c (owe c 15 4 0) 4 (need1 m ρ c) (got1 c) ∗ R)
      ⊢ Run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 v1 >>= P) Q := by
  rw [k0_part7_eq_skeleton]
  unfold k0_part7_skel
  simp only [semSignalWord, semWaitWord, Prog.lift, Prog.bind_op, Prog.bind_ret, Prog.pure_eq_ret, wp_deviceId]
  refine send1_step m ρ K c 4 (Fin.ext (k0_dev20_eq c)) (s1_sem 4 _ rfl _) (r1_sem c _ (k0_off1_eq c) _) (k0_off3_eq c 4) (k0_off2_eq c) ?_
  refine send1_step m ρ K c 5 (Fin.ext (k0_dev21_eq c)) (s1_sem 5 _ rfl _) (r1_sem c _ (k0_off1_eq c) _) (k0_off3_eq c 5) (k0_off2_eq c) ?_
  exact h

/-- Part 8: first transfers 6 to 8. -/
theorem part8 (c : Dev nD) {α : Type} {Q : α → sProp 𝕄} {P : (PUnit) → Prog (TpuEff nD τ sig (Elt F) Λ₀ .tc) α} {R : sProp 𝕄}
    (h : iprop(ctx m ρ K ∗ Loop c (owe c 15 9 0) 9 (need1 m ρ c) (got1 c) ∗ R) ⊢ Run c (P ⟨⟩) Q) :
    iprop(ctx m ρ K ∗ Loop c (owe c 15 6 0) 6 (need1 m ρ c) (got1 c) ∗ R)
      ⊢ Run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part8_eq_skeleton]
  unfold k0_part8_skel
  simp only [semSignalWord, semWaitWord, Prog.lift, Prog.bind_op, Prog.bind_ret, Prog.pure_eq_ret, wp_deviceId]
  refine send1_step m ρ K c 6 (Fin.ext (k0_dev22_eq c)) (s1_sem 6 _ rfl _) (r1_sem c _ (k0_off1_eq c) _) (k0_off3_eq c 6) (k0_off2_eq c) ?_
  refine send1_step m ρ K c 7 (Fin.ext (k0_dev23_eq c)) (s1_sem 7 _ rfl _) (r1_sem c _ (k0_off1_eq c) _) (k0_off3_eq c 7) (k0_off2_eq c) ?_
  refine send1_step m ρ K c 8 (Fin.ext (k0_dev24_eq c)) (s1_sem 8 _ rfl _) (r1_sem c _ (k0_off1_eq c) _) (k0_off3_eq c 8) (k0_off2_eq c) ?_
  exact h

/-- Part 9: first transfers 9 to 11. -/
theorem part9 (c : Dev nD) {α : Type} {Q : α → sProp 𝕄} {P : (BitVec 32) → Prog (TpuEff nD τ sig (Elt F) Λ₀ .tc) α} {R : sProp 𝕄}
    (h : ∀ v, iprop(ctx m ρ K ∗ Loop c (owe c 15 12 0) 12 (need1 m ρ c) (got1 c) ∗ R) ⊢ Run c (P v) Q) :
    iprop(ctx m ρ K ∗ Loop c (owe c 15 9 0) 9 (need1 m ρ c) (got1 c) ∗ R)
      ⊢ Run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part9_eq_skeleton]
  unfold k0_part9_skel
  simp only [semSignalWord, semWaitWord, Prog.lift, Prog.bind_op, Prog.bind_ret, Prog.pure_eq_ret, wp_deviceId]
  refine send1_step m ρ K c 9 (Fin.ext (k0_dev25_eq c)) (s1_sem 9 _ rfl _) (r1_sem c _ (k0_off1_eq c) _) (k0_off3_eq c 9) (k0_off2_eq c) ?_
  refine send1_step m ρ K c 10 (Fin.ext (k0_dev26_eq c)) (s1_sem 10 _ rfl _) (r1_sem c _ (k0_off1_eq c) _) (k0_off3_eq c 10) (k0_off2_eq c) ?_
  refine send1_step m ρ K c 11 (Fin.ext (k0_dev27_eq c)) (s1_sem 11 _ rfl _) (r1_sem c _ (k0_off1_eq c) _) (k0_off3_eq c 11) (k0_off2_eq c) ?_
  exact h _

/-- Part 10: first transfers 12 to 14. -/
theorem part10 (c : Dev nD) (v0 : BitVec 32) {α : Type} {Q : α → sProp 𝕄} {P : (BitVec 32) → Prog (TpuEff nD τ sig (Elt F) Λ₀ .tc) α} {R : sProp 𝕄}
    (h : ∀ v, iprop(ctx m ρ K ∗ Loop c (owe c 15 15 0) 15 (need1 m ρ c) (got1 c) ∗ R) ⊢ Run c (P v) Q) :
    iprop(ctx m ρ K ∗ Loop c (owe c 15 12 0) 12 (need1 m ρ c) (got1 c) ∗ R)
      ⊢ Run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 >>= P) Q := by
  rw [k0_part10_eq_skeleton]
  unfold k0_part10_skel
  simp only [semSignalWord, semWaitWord, Prog.lift, Prog.bind_op, Prog.bind_ret, Prog.pure_eq_ret, wp_deviceId]
  refine send1_step m ρ K c 12 (Fin.ext (k0_dev28_eq c)) (s1_sem 12 _ rfl _) (r1_sem c _ (k0_off1_eq c) _) (k0_off3_eq c 12) (k0_off2_eq c) ?_
  refine send1_step m ρ K c 13 (Fin.ext (k0_dev29_eq c)) (s1_sem 13 _ rfl _) (r1_sem c _ (k0_off1_eq c) _) (k0_off3_eq c 13) (k0_off2_eq c) ?_
  refine send1_step m ρ K c 14 (Fin.ext (k0_dev30_eq c)) (s1_sem 14 _ rfl _) (r1_sem c _ (k0_off1_eq c) _) (k0_off3_eq c 14) (k0_off2_eq c) ?_
  exact h _

end Cert.KernelIdealProof

end
-- ==== Proof.KernelIdeal.BodyC.lean ====
/-
# What arrives in the first round is summed
-/
module

public import proofs.«01_k».proof.Proof.KernelIdeal.BodyA

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KC → ℕ)

/-- The four families of transfer cells a device waits on, and their payers. -/
abbrev oS1 (j : Fin 15) : OC := .inl (.inl j)
abbrev oS2 (j : Fin 15) : OC := .inl (.inr j)
abbrev oR1 (c : Dev nD) (j : Fin 15) : OC := .inr (.inl (peer c j))
abbrev oR2 (c : Dev nD) (j : Fin 15) : OC := .inr (.inr (peer c j))

theorem weaken {A B G : sProp 𝕄} (h : A ⊢ B) (h' : B ⊢ G) : A ⊢ G := h.trans h'

theorem setOn_ownC (p : Fin 16) : ownM.view.setOn (rowsR p).toLoadRect.set ⊆ (ownC p).view.set := by
  rw [set_ownC]; exact (Finset.map_refl (s := (rowsR p).set)).subset
theorem setOn_outC (p : Fin 16) : outM.view.setOn (rowsR p).toLoadRect.set ⊆ (outC p).view.set := by
  rw [set_outC]; exact (Finset.map_refl (s := (rowsR p).set)).subset
theorem setOn_comC (p : Fin 16) : comM.view.setOn (slotR p).toLoadRect.set ⊆ (comC p).view.set := by
  rw [set_comC]; exact (Finset.map_refl (s := (slotR p).set)).subset

/-- One loop is over and the next begins. -/
theorem turn (c : Dev nD) {O : CellTallies nD τ sig Unit} {Φ Ψ Φ' Ψ' : Fin 15 → sProp 𝕄} {R G : sProp 𝕄}
    (h : iprop(ctx m ρ K ∗ Loop c O 0 Φ' Ψ' ∗ ((bigSep Finset.univ Ψ) ∗ R)) ⊢ G) :
    iprop(ctx m ρ K ∗ Loop c O 15 Φ Ψ ∗ ((bigSep Finset.univ Φ') ∗ R)) ⊢ G := by
  refine weaken ?_ h
  unfold Loop
  rw [tail_zero, tail_end, done_zero, done_end, bigSep_empty, bigSep_empty]
  iintro ⟨Hc, ⟨HO, -, HΨ⟩, HΦ, HR⟩
  isplitl [Hc]; · iexact Hc
  isplitl [HO HΦ]
  · isplitl [HO]; · iexact HO
    isplitl [HΦ]; · iexact HΦ
    iempintro
  isplitl [HΨ]; · iexact HΨ
  iexact HR

/-- The load of the device's own chunk. -/
theorem own_step (c : Dev nD) {off : Fin 2 → ℕ} (hoff : off = ![32 * c.val, 0]) {inb : ∀ a, off a + S32x512.size a ≤ S512x512.size a}
    {hl} {α : Type} {Q : α → sProp 𝕄} {P : Vec F S32x512 .bf16 → Prog (TpuEff nD τ sig (Elt F) Λ₀ .tc) α} {X R : sProp 𝕄}
    (h : iprop(ctx m ρ K ∗ X ∗ (R ∗ ownPt c c (ownF m ρ c))) ⊢ Run c (P (ownV m ρ c)) Q) :
    iprop(ctx m ρ K ∗ X ∗ (R ∗ ownPt c c (ownF m ρ c)))
      ⊢ Run c (.op (.load ownM (Rect.unit (s := S512x512) off S32x512.size inb).toLoadRect hl) P) Q := by
  subst hoff
  unfold ownPt at h ⊢
  iintro ⟨#Hctx, HX, HR, Hp⟩
  iapply (load_at c (mm := ownM) (S := (ownC c).view.set) (q := fullShare) (setOn_ownC c) (load_own m ρ c)) $$ Hp; iintro Hp
  iapply h
  isplitr; · iexact Hctx
  isplitl [HX]; · iexact HX
  isplitl [HR]; · iexact HR
  iexact Hp

/-- The loop that awaits the peers' chunks. -/
abbrev Recv (c : Dev nD) (k : ℕ) : sProp 𝕄 :=
  Loop c (owe c 15 15 0) k (waitNeed c (oR1 c)) (waitGot m ρ c (oR1 c) (peer c))

/-- The load of slot `peer c k`, which has arrived. -/
theorem slot_step (c : Dev nD) (k : Fin 15) {off : Fin 3 → ℕ} (hoff : off = ![(peer c k).val, 0, 0])
    {inb : ∀ a, off a + S1x32x512.size a ≤ S16x32x512.size a} {hl} {α : Type} {Q : α → sProp 𝕄}
    {P : Vec F S1x32x512 .bf16 → Prog (TpuEff nD τ sig (Elt F) Λ₀ .tc) α} {R : sProp 𝕄}
    (h : iprop(ctx m ρ K ∗ Recv m ρ c (k.val + 1) ∗ R) ⊢ Run c (P (slotV m ρ c (peer c k))) Q) :
    iprop(ctx m ρ K ∗ Recv m ρ c (k.val + 1) ∗ R)
      ⊢ Run c (.op (.load comM (Rect.unit (s := S16x32x512) off S1x32x512.size inb).toLoadRect hl) P) Q := by
  subst hoff
  unfold Recv Loop at h ⊢
  rw [bigSep_done] at h ⊢
  unfold waitGot at h ⊢
  iintro ⟨#Hctx, ⟨HO, HT, ⟨Hz, Hp⟩, Hd⟩, HR⟩
  ihave Hp' := (show payK m ρ c (.inr (oR1 c k)) (peer c k) ⊢ (comM.view.loc (c : Thread nD τ) ↦[(comC (peer c k)).view.set]{fullShare} comF m ρ c) from
    Entails.of_eq rfl) $$ Hp
  iapply (load_at c (mm := comM) (S := (comC (peer c k)).view.set) (q := fullShare) (setOn_comC (peer c k)) (load_slot m ρ c (peer c k))) $$ Hp'; iintro Hp
  iapply h
  isplitr; · iexact Hctx
  isplitr [HR]
  · isplitl [HO]; · iexact HO
    isplitl [HT]; · iexact HT
    isplitr [Hd]
    · isplitl [Hz]; · iexact Hz
      iapply (show (comM.view.loc (c : Thread nD τ) ↦[(comC (peer c k)).view.set]{fullShare} comF m ρ c) ⊢ payK m ρ c (.inr (oR1 c k)) (peer c k) from
        Entails.of_eq rfl)
      iexact Hp
    iexact Hd
  iexact HR

theorem mayWait_r1' (c : Dev nD) (j : Fin 15) : (levAts L lv : sProp 𝕄) ⊢ MayWait (c : Thread nD τ) (csem (.inr (oR1 c j))) () (owe c 15 15 0) :=
  mayWait_r1 c (peer c j)

/-- Part 11: the own chunk, and the first two peers'. -/
theorem part11 (c : Dev nD) (v0 : BitVec 32) {α : Type} {Q : α → sProp 𝕄} {P : (Σ' (v350 : FVec F S32x512 .f32) (v351 : BitVec 32), BitVec 32) → Prog (TpuEff nD τ sig (Elt F) Λ₀ .tc) α} {R : sProp 𝕄}
    (h : ∀ v, iprop(ctx m ρ K ∗ Recv m ρ c 2 ∗ ((bigSep Finset.univ (got1 (F := F) c)) ∗ R ∗ ownPt c c (ownF m ρ c))) ⊢ Run c (P ⟨k0_pay14 (ownV m ρ c) (slotV m ρ c (peer c 0)) (slotV m ρ c (peer c 1)), v, 16#32⟩) Q) :
    iprop(ctx m ρ K ∗ Loop c (owe c 15 15 0) 15 (need1 m ρ c) (got1 c) ∗ (((bigSep Finset.univ (waitNeed (F := F) c (oR1 c))) ∗ R) ∗ ownPt c c (ownF m ρ c)))
      ⊢ Run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 >>= P) Q := by
  rw [k0_part11_eq_skeleton]
  unfold k0_part11_skel
  simp only [semSignalWord, semWaitWord, Prog.lift, Prog.bind_op, Prog.bind_ret, Prog.pure_eq_ret, wp_deviceId]
  refine own_step m ρ K c (k0_off4_eq c) ?_
  refine weaken (B := iprop(ctx m ρ K ∗ Loop c (owe c 15 15 0) 15 (need1 m ρ c) (got1 c) ∗ ((bigSep Finset.univ (waitNeed (F := F) c (oR1 c))) ∗ (R ∗ ownPt c c (ownF m ρ c))))) ?_ ?_
  · iintro ⟨Hc, HL, ⟨HN, HR⟩, Ho⟩
    isplitl [Hc]; · iexact Hc
    isplitl [HL]; · iexact HL
    isplitl [HN]; · iexact HN
    isplitl [HR]; · iexact HR
    iexact Ho
  refine turn m ρ K c (Ψ' := waitGot m ρ c (oR1 c) (peer c)) ?_
  refine wait_step m ρ K c (oR1 c) (peer c) (dutiesK_r1 c) _ (mayWait_r1' c) 0 (r1_sem (peer c 0) _ (k0_off5_eq c 0) _) (by rfl) ?_
  refine slot_step m ρ K c 0 (k0_off7_eq c 0) ?_
  refine wait_step m ρ K c (oR1 c) (peer c) (dutiesK_r1 c) _ (mayWait_r1' c) 1 (r1_sem (peer c 1) _ (k0_off5_eq c 1) _) (by rfl) ?_
  refine slot_step m ρ K c 1 (k0_off7_eq c 1) ?_
  exact h _

/-- Part 12. -/
theorem part12 (c : Dev nD) (s : FVec F S32x512 .f32) (v0 v1 : BitVec 32) {α : Type} {Q : α → sProp 𝕄} {P : (Σ' (v378 : FVec F S32x512 .f32), BitVec 32) → Prog (TpuEff nD τ sig (Elt F) Λ₀ .tc) α} {R : sProp 𝕄}
    (h : ∀ v, iprop(ctx m ρ K ∗ Recv m ρ c 4 ∗ R) ⊢ Run c (P ⟨k0_pay15 s (slotV m ρ c (peer c 2)) (slotV m ρ c (peer c 3)), v⟩) Q) :
    iprop(ctx m ρ K ∗ Recv m ρ c 2 ∗ R)
      ⊢ Run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) s v0 v1 >>= P) Q := by
  rw [k0_part12_eq_skeleton]
  unfold k0_part12_skel
  simp only [semSignalWord, semWaitWord, Prog.lift, Prog.bind_op, Prog.bind_ret, Prog.pure_eq_ret, wp_deviceId]
  refine wait_step m ρ K c (oR1 c) (peer c) (dutiesK_r1 c) _ (mayWait_r1' c) 2 (r1_sem (peer c 2) _ (k0_off5_eq c 2) _) (by rfl) ?_
  refine slot_step m ρ K c 2 (k0_off7_eq c 2) ?_
  refine wait_step m ρ K c (oR1 c) (peer c) (dutiesK_r1 c) _ (mayWait_r1' c) 3 (r1_sem (peer c 3) _ (k0_off5_eq c 3) _) (by rfl) ?_
  refine slot_step m ρ K c 3 (k0_off7_eq c 3) ?_
  exact h _

/-- Part 13. -/
theorem part13 (c : Dev nD) (s : FVec F S32x512 .f32) (v0 : BitVec 32) {α : Type} {Q : α → sProp 𝕄} {P : (Σ' (v406 : FVec F S32x512 .f32), BitVec 32) → Prog (TpuEff nD τ sig (Elt F) Λ₀ .tc) α} {R : sProp 𝕄}
    (h : ∀ v, iprop(ctx m ρ K ∗ Recv m ρ c 7 ∗ R) ⊢ Run c (P ⟨k0_pay16 s (slotV m ρ c (peer c 4)) (slotV m ρ c (peer c 5)), v⟩) Q) :
    iprop(ctx m ρ K ∗ Recv m ρ c 4 ∗ R)
      ⊢ Run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) s v0 >>= P) Q := by
  rw [k0_part13_eq_skeleton]
  unfold k0_part13_skel
  simp only [semSignalWord, semWaitWord, Prog.lift, Prog.bind_op, Prog.bind_ret, Prog.pure_eq_ret, wp_deviceId]
  refine wait_step m ρ K c (oR1 c) (peer c) (dutiesK_r1 c) _ (mayWait_r1' c) 4 (r1_sem (peer c 4) _ (k0_off5_eq c 4) _) (by rfl) ?_
  refine slot_step m ρ K c 4 (k0_off7_eq c 4) ?_
  refine wait_step m ρ K c (oR1 c) (peer c) (dutiesK_r1 c) _ (mayWait_r1' c) 5 (r1_sem (peer c 5) _ (k0_off5_eq c 5) _) (by rfl) ?_
  refine slot_step m ρ K c 5 (k0_off7_eq c 5) ?_
  refine wait_step m ρ K c (oR1 c) (peer c) (dutiesK_r1 c) _ (mayWait_r1' c) 6 (r1_sem (peer c 6) _ (k0_off5_eq c 6) _) (by rfl) ?_
  exact h _

/-- Part 14. -/
theorem part14 (c : Dev nD) (s : FVec F S32x512 .f32) (v0 : BitVec 32) {α : Type} {Q : α → sProp 𝕄} {P : (Σ' (v448 : FVec F S32x512 .f32), BitVec 32) → Prog (TpuEff nD τ sig (Elt F) Λ₀ .tc) α} {R : sProp 𝕄}
    (h : ∀ v, iprop(ctx m ρ K ∗ Recv m ρ c 9 ∗ R) ⊢ Run c (P ⟨k0_pay17 s (slotV m ρ c (peer c 6)) (slotV m ρ c (peer c 7)) (slotV m ρ c (peer c 8)), v⟩) Q) :
    iprop(ctx m ρ K ∗ Recv m ρ c 7 ∗ R)
      ⊢ Run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) s v0 >>= P) Q := by
  rw [k0_part14_eq_skeleton]
  unfold k0_part14_skel
  simp only [semSignalWord, semWaitWord, Prog.lift, Prog.bind_op, Prog.bind_ret, Prog.pure_eq_ret, wp_deviceId]
  refine slot_step m ρ K c 6 (k0_off7_eq c 6) ?_
  refine wait_step m ρ K c (oR1 c) (peer c) (dutiesK_r1 c) _ (mayWait_r1' c) 7 (r1_sem (peer c 7) _ (k0_off5_eq c 7) _) (by rfl) ?_
  refine slot_step m ρ K c 7 (k0_off7_eq c 7) ?_
  refine wait_step m ρ K c (oR1 c) (peer c) (dutiesK_r1 c) _ (mayWait_r1' c) 8 (r1_sem (peer c 8) _ (k0_off5_eq c 8) _) (by rfl) ?_
  refine slot_step m ρ K c 8 (k0_off7_eq c 8) ?_
  exact h _

/-- Part 15. -/
theorem part15 (c : Dev nD) (s : FVec F S32x512 .f32) (v0 : BitVec 32) {α : Type} {Q : α → sProp 𝕄} {P : (Σ' (v476 : FVec F S32x512 .f32), BitVec 32) → Prog (TpuEff nD τ sig (Elt F) Λ₀ .tc) α} {R : sProp 𝕄}
    (h : ∀ v, iprop(ctx m ρ K ∗ Recv m ρ c 11 ∗ R) ⊢ Run c (P ⟨k0_pay18 s (slotV m ρ c (peer c 9)) (slotV m ρ c (peer c 10)), v⟩) Q) :
    iprop(ctx m ρ K ∗ Recv m ρ c 9 ∗ R)
      ⊢ Run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) s v0 >>= P) Q := by
  rw [k0_part15_eq_skeleton]
  unfold k0_part15_skel
  simp only [semSignalWord, semWaitWord, Prog.lift, Prog.bind_op, Prog.bind_ret, Prog.pure_eq_ret, wp_deviceId]
  refine wait_step m ρ K c (oR1 c) (peer c) (dutiesK_r1 c) _ (mayWait_r1' c) 9 (r1_sem (peer c 9) _ (k0_off5_eq c 9) _) (by rfl) ?_
  refine slot_step m ρ K c 9 (k0_off7_eq c 9) ?_
  refine wait_step m ρ K c (oR1 c) (peer c) (dutiesK_r1 c) _ (mayWait_r1' c) 10 (r1_sem (peer c 10) _ (k0_off5_eq c 10) _) (by rfl) ?_
  refine slot_step m ρ K c 10 (k0_off7_eq c 10) ?_
  exact h _

/-- Part 16. -/
theorem part16 (c : Dev nD) (s : FVec F S32x512 .f32) (v0 : BitVec 32) {α : Type} {Q : α → sProp 𝕄} {P : (Σ' (v504 : FVec F S32x512 .f32), BitVec 32) → Prog (TpuEff nD τ sig (Elt F) Λ₀ .tc) α} {R : sProp 𝕄}
    (h : ∀ v, iprop(ctx m ρ K ∗ Recv m ρ c 13 ∗ R) ⊢ Run c (P ⟨k0_pay19 s (slotV m ρ c (peer c 11)) (slotV m ρ c (peer c 12)), v⟩) Q) :
    iprop(ctx m ρ K ∗ Recv m ρ c 11 ∗ R)
      ⊢ Run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) s v0 >>= P) Q := by
  rw [k0_part16_eq_skeleton]
  unfold k0_part16_skel
  simp only [semSignalWord, semWaitWord, Prog.lift, Prog.bind_op, Prog.bind_ret, Prog.pure_eq_ret, wp_deviceId]
  refine wait_step m ρ K c (oR1 c) (peer c) (dutiesK_r1 c) _ (mayWait_r1' c) 11 (r1_sem (peer c 11) _ (k0_off5_eq c 11) _) (by rfl) ?_
  refine slot_step m ρ K c 11 (k0_off7_eq c 11) ?_
  refine wait_step m ρ K c (oR1 c) (peer c) (dutiesK_r1 c) _ (mayWait_r1' c) 12 (r1_sem (peer c 12) _ (k0_off5_eq c 12) _) (by rfl) ?_
  refine slot_step m ρ K c 12 (k0_off7_eq c 12) ?_
  exact h _

/-- The duties of the second round of transfers. -/
def toks2 (c : Dev nD) : sProp 𝕄 :=
  bigSep Finset.univ fun j : Fin 15 => iprop(dutyTok EX (kcell c (kS2 j)) 0 c ∗ dutyTok EX (kcell (peer c j) (kR2 c)) 0 c)

/-- The second round of transfers is ready. -/
theorem start2 (c : Dev nD) {O : CellTallies nD τ sig Unit} {Φ Ψ : Fin 15 → sProp 𝕄} :
    iprop(Loop c O 15 Φ Ψ ∗ outPt c c fullShare (outF m ρ) ∗ outNeed (F := F) c ∗ toks2 (F := F) c)
      ⊢ iprop(Loop c O 0 (need2 m ρ c) (got2 c) ∗ (bigSep Finset.univ Ψ) ∗ outPt c c kept (outF m ρ)) := by
  unfold Loop toks2 outNeed need2
  rw [tail_zero, tail_end, done_zero, done_end, bigSep_empty, bigSep_empty, out_shares]
  simp only [bigSep_sep']
  iintro ⟨⟨HO, -, HΨ⟩, ⟨Hk, Hl⟩, Hou, Ht1, Ht2⟩
  isplitl [HO Hl Hou Ht1 Ht2]
  · isplitl [HO]; · iexact HO
    isplitl [Hl Hou Ht1 Ht2]
    · isplitl [Hl]; · iexact Hl
      isplitl [Hou]; · iexact Hou
      isplitl [Ht1]; · iexact Ht1
      iexact Ht2
    iempintro
  isplitl [HΨ]; · iexact HΨ
  iexact Hk

/-- The store of the sum. -/
theorem store_step (c : Dev nD) {off : Fin 2 → ℕ} (hoff : off = ![32 * c.val, 0]) {inb : ∀ a, off a + S32x512.size a ≤ S512x512.size a}
    {hl} {hx} {hm} {w : Vec F S32x512 .bf16} (hw : w = redF m ρ c) {α : Type} {Q : α → sProp 𝕄} {P : PUnit → Prog (TpuEff nD τ sig (Elt F) Λ₀ .tc) α} {R : sProp 𝕄}
    (h : iprop(outPt c c fullShare (outF m ρ) ∗ R) ⊢ Run c (P ⟨⟩) Q) :
    iprop((∃ f, outPt (F := F) c c fullShare f) ∗ R)
      ⊢ Run c (.op (.load outM (Rect.unit (s := S512x512) off S32x512.size inb).toLoadRect hl) fun _ =>
          .op (.store outM (Rect.unit (s := S512x512) off S32x512.size inb) w Finset.univ hx hm) P) Q := by
  subst hoff hw
  unfold outPt at h ⊢
  iintro ⟨⟨%f, Hp⟩, HR⟩
  iapply (load_at c (mm := outM) (r := (rowsR c).toLoadRect) (f := f) (S := (outC c).view.set) (q := fullShare) (setOn_outC c) rfl) $$ Hp; iintro Hp
  iapply (wp_store 𝒱₀ (c : Thread nD τ) none Set.univ (m := outM) (r := rowsR c) (Mk := Finset.univ) (S := (outC c).view.set) (Finset.Subset.refl _)) $$ Hp; iintro Hp
  iapply h
  isplitl [Hp]
  · iapply (Entails.of_eq (pointsTo_congr (stored m ρ c f))); iexact Hp
  iexact HR

/-- Part 17: the last two peers' chunks; the sum is stored. -/
theorem part17 (c : Dev nD) {s : FVec F S32x512 .f32} (hs : k0_pay20 s (slotV m ρ c (peer c 13)) (slotV m ρ c (peer c 14)) = redF m ρ c) (v0 : BitVec 32) {α : Type} {Q : α → sProp 𝕄} {P : (PUnit) → Prog (TpuEff nD τ sig (Elt F) Λ₀ .tc) α} {R : sProp 𝕄}
    (h : iprop(ctx m ρ K ∗ Loop c (owe c 15 15 0) 0 (need2 m ρ c) (got2 c) ∗ ((bigSep Finset.univ (waitGot m ρ c (oR1 c) (peer c))) ∗ outPt c c kept (outF m ρ) ∗ R)) ⊢ Run c (P ⟨⟩) Q) :
    iprop(ctx m ρ K ∗ Recv m ρ c 13 ∗ ((∃ f, outPt (F := F) c c fullShare f) ∗ outNeed (F := F) c ∗ toks2 (F := F) c ∗ R))
      ⊢ Run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) s v0 >>= P) Q := by
  rw [k0_part17_eq_skeleton]
  unfold k0_part17_skel
  simp only [semSignalWord, semWaitWord, Prog.lift, Prog.bind_op, Prog.bind_ret, Prog.pure_eq_ret, wp_deviceId]
  refine wait_step m ρ K c (oR1 c) (peer c) (dutiesK_r1 c) _ (mayWait_r1' c) 13 (r1_sem (peer c 13) _ (k0_off5_eq c 13) _) (by rfl) ?_
  refine slot_step m ρ K c 13 (k0_off7_eq c 13) ?_
  refine wait_step m ρ K c (oR1 c) (peer c) (dutiesK_r1 c) _ (mayWait_r1' c) 14 (r1_sem (peer c 14) _ (k0_off5_eq c 14) _) (by rfl) ?_
  refine slot_step m ρ K c 14 (k0_off7_eq c 14) ?_
  refine weaken (B := iprop((∃ f, outPt (F := F) c c fullShare f) ∗ (ctx m ρ K ∗ Recv m ρ c 15 ∗ outNeed (F := F) c ∗ toks2 (F := F) c ∗ R))) ?_ ?_
  · iintro ⟨Hc, HL, Hp, HR⟩
    isplitl [Hp]; · iexact Hp
    isplitl [Hc]; · iexact Hc
    isplitl [HL]; · iexact HL
    iexact HR
  refine store_step m ρ c (k0_off4_eq c) hs ?_
  refine weaken ?_ h
  iintro ⟨Hp, Hc, HL, Hou, Ht, HR⟩
  ihave H := (start2 m ρ c) $$ [HL Hp Hou Ht]
  · isplitl [HL]; · iexact HL
    isplitl [Hp]; · iexact Hp
    isplitl [Hou]; · iexact Hou
    iexact Ht
  icases H with ⟨HL, Hg, Hk⟩
  isplitl [Hc]; · iexact Hc
  isplitl [HL]; · iexact HL
  isplitl [Hg]; · iexact Hg
  isplitl [Hk]; · iexact Hk
  iexact HR

end Cert.KernelIdealProof

end
-- ==== Proof.KernelIdeal.BodyD.lean ====
/-
# The second round of transfers, and the waits on what this device sent
-/
module

public import proofs.«01_k».proof.Proof.KernelIdeal.BodyC

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KC → ℕ)

theorem dutiesK_s1 (c : Dev nD) (j : Fin 15) : dutiesK c (.inr (oS1 j)) = {c} := rfl
theorem dutiesK_s2 (c : Dev nD) (j : Fin 15) : dutiesK c (.inr (oS2 j)) = {c} := rfl

/-- The loops that wait on the transfers out, and on the second round's arrivals. -/
abbrev Out1 (c : Dev nD) (k : ℕ) : sProp 𝕄 := Loop c (owe c 15 15 15) k (waitNeed c oS1) (waitGot m ρ c oS1 fun _ => c)
abbrev Out2 (c : Dev nD) (k : ℕ) : sProp 𝕄 := Loop c (owe c 15 15 15) k (waitNeed c oS2) (waitGot m ρ c oS2 fun _ => c)
abbrev In2 (c : Dev nD) (k : ℕ) : sProp 𝕄 := Loop c (owe c 15 15 15) k (waitNeed c (oR2 c)) (waitGot m ρ c (oR2 c) (peer c))
abbrev Send2 (c : Dev nD) (k : ℕ) : sProp 𝕄 := Loop c (owe c 15 15 k) k (need2 m ρ c) (got2 c)

theorem mayWait_end (c : Dev nD) (o : Fin 15 → OC) (j : Fin 15) : (levAts L lv : sProp 𝕄) ⊢ MayWait (c : Thread nD τ) (csem (.inr (o j))) () (owe c 15 15 15) :=
  mayWait_last c _

/-- Part 18: second transfers 0 to 2. -/
theorem part18 (c : Dev nD) {α : Type} {Q : α → sProp 𝕄} {P : (Σ' (v577 : BitVec 32), BitVec 32) → Prog (TpuEff nD τ sig (Elt F) Λ₀ .tc) α} {R : sProp 𝕄}
    (h : ∀ v, iprop(ctx m ρ K ∗ Send2 m ρ c 3 ∗ R) ⊢ Run c (P ⟨v, 0#32⟩) Q) :
    iprop(ctx m ρ K ∗ Send2 m ρ c 0 ∗ R)
      ⊢ Run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part18_eq_skeleton]
  unfold k0_part18_skel
  simp only [semSignalWord, semWaitWord, Prog.lift, Prog.bind_op, Prog.bind_ret, Prog.pure_eq_ret, wp_deviceId]
  refine send2_step m ρ K c 0 (Fin.ext (k0_dev31_eq c)) (s2_sem 0 _ rfl _) (r2_sem c _ (k0_off1_eq c) _) (k0_off8_eq c) ?_
  refine send2_step m ρ K c 1 (Fin.ext (k0_dev32_eq c)) (s2_sem 1 _ rfl _) (r2_sem c _ (k0_off1_eq c) _) (k0_off8_eq c) ?_
  refine send2_step m ρ K c 2 (Fin.ext (k0_dev33_eq c)) (s2_sem 2 _ rfl _) (r2_sem c _ (k0_off1_eq c) _) (k0_off8_eq c) ?_
  exact h _

/-- Part 19: second transfers 3 to 5. -/
theorem part19 (c : Dev nD) (v0 v1 : BitVec 32) {α : Type} {Q : α → sProp 𝕄} {P : (BitVec 32) → Prog (TpuEff nD τ sig (Elt F) Λ₀ .tc) α} {R : sProp 𝕄}
    (h : ∀ v, iprop(ctx m ρ K ∗ Send2 m ρ c 6 ∗ R) ⊢ Run c (P v) Q) :
    iprop(ctx m ρ K ∗ Send2 m ρ c 3 ∗ R)
      ⊢ Run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 v1 >>= P) Q := by
  rw [k0_part19_eq_skeleton]
  unfold k0_part19_skel
  simp only [semSignalWord, semWaitWord, Prog.lift, Prog.bind_op, Prog.bind_ret, Prog.pure_eq_ret, wp_deviceId]
  refine send2_step m ρ K c 3 (Fin.ext (k0_dev34_eq c)) (s2_sem 3 _ rfl _) (r2_sem c _ (k0_off1_eq c) _) (k0_off8_eq c) ?_
  refine send2_step m ρ K c 4 (Fin.ext (k0_dev35_eq c)) (s2_sem 4 _ rfl _) (r2_sem c _ (k0_off1_eq c) _) (k0_off8_eq c) ?_
  refine send2_step m ρ K c 5 (Fin.ext (k0_dev36_eq c)) (s2_sem 5 _ rfl _) (r2_sem c _ (k0_off1_eq c) _) (k0_off8_eq c) ?_
  exact h _

/-- Part 20: second transfers 6 to 8. -/
theorem part20 (c : Dev nD) (v0 : BitVec 32) {α : Type} {Q : α → sProp 𝕄} {P : (PUnit) → Prog (TpuEff nD τ sig (Elt F) Λ₀ .tc) α} {R : sProp 𝕄}
    (h : iprop(ctx m ρ K ∗ Send2 m ρ c 9 ∗ R) ⊢ Run c (P ⟨⟩) Q) :
    iprop(ctx m ρ K ∗ Send2 m ρ c 6 ∗ R)
      ⊢ Run c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 >>= P) Q := by
  rw [k0_part20_eq_skeleton]
  unfold k0_part20_skel
  simp only [semSignalWord, semWaitWord, Prog.lift, Prog.bind_op, Prog.bind_ret, Prog.pure_eq_ret, wp_deviceId]
  refine send2_step m ρ K c 6 (Fin.ext (k0_dev37_eq c)) (s2_sem 6 _ rfl _) (r2_sem c _ (k0_off1_eq c) _) (k0_off8_eq c) ?_
  refine send2_step m ρ K c 7 (Fin.ext (k0_dev38_eq c)) (s2_sem 7 _ rfl _) (r2_sem c _ (k0_off1_eq c) _) (k0_off8_eq c) ?_
  refine send2_step m ρ K c 8 (Fin.ext (k0_dev39_eq c)) (s2_sem 8 _ rfl _) (r2_sem c _ (k0_off1_eq c) _) (k0_off8_eq c) ?_
  exact h

/-- Part 21: second transfers 9 and 10. -/
theorem part21 (c : Dev nD) {α : Type} {Q : α → sProp 𝕄} {P : (PUnit) → Prog (TpuEff nD τ sig (Elt F) Λ₀ .tc) α} {R : sProp 𝕄}
    (h : iprop(ctx m ρ K ∗ Send2 m ρ c 11 ∗ R) ⊢ Run c (P ⟨⟩) Q) :
    iprop(ctx m ρ K ∗ Send2 m ρ c 9 ∗ R)
      ⊢ Run c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part21_eq_skeleton]
  unfold k0_part21_skel
  simp only [semSignalWord, semWaitWord, Prog.lift, Prog.bind_op, Prog.bind_ret, Prog.pure_eq_ret, wp_deviceId]
  refine send2_step m ρ K c 9 (Fin.ext (k0_dev40_eq c)) (s2_sem 9 _ rfl _) (r2_sem c _ (k0_off1_eq c) _) (k0_off8_eq c) ?_
  refine send2_step m ρ K c 10 (Fin.ext (k0_dev41_eq c)) (s2_sem 10 _ rfl _) (r2_sem c _ (k0_off1_eq c) _) (k0_off8_eq c) ?_
  exact h

/-- Part 22: second transfers 11 to 13. -/
theorem part22 (c : Dev nD) {α : Type} {Q : α → sProp 𝕄} {P : (Σ' (v706 : BitVec 32), BitVec 32) → Prog (TpuEff nD τ sig (Elt F) Λ₀ .tc) α} {R : sProp 𝕄}
    (h : ∀ v, iprop(ctx m ρ K ∗ Send2 m ρ c 14 ∗ R) ⊢ Run c (P ⟨v, 1#32⟩) Q) :
    iprop(ctx m ρ K ∗ Send2 m ρ c 11 ∗ R)
      ⊢ Run c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part22_eq_skeleton]
  unfold k0_part22_skel
  simp only [semSignalWord, semWaitWord, Prog.lift, Prog.bind_op, Prog.bind_ret, Prog.pure_eq_ret, wp_deviceId]
  refine send2_step m ρ K c 11 (Fin.ext (k0_dev42_eq c)) (s2_sem 11 _ rfl _) (r2_sem c _ (k0_off1_eq c) _) (k0_off8_eq c) ?_
  refine send2_step m ρ K c 12 (Fin.ext (k0_dev43_eq c)) (s2_sem 12 _ rfl _) (r2_sem c _ (k0_off1_eq c) _) (k0_off8_eq c) ?_
  refine send2_step m ρ K c 13 (Fin.ext (k0_dev44_eq c)) (s2_sem 13 _ rfl _) (r2_sem c _ (k0_off1_eq c) _) (k0_off8_eq c) ?_
  exact h _

/-- Part 23: the last second transfer; the first two waits on the first round. -/
theorem part23 (c : Dev nD) (v0 v1 : BitVec 32) {α : Type} {Q : α → sProp 𝕄} {P : (PUnit) → Prog (TpuEff nD τ sig (Elt F) Λ₀ .tc) α} {R : sProp 𝕄}
    (h : iprop(ctx m ρ K ∗ Out1 m ρ c 2 ∗ ((bigSep Finset.univ (got2 (F := F) c)) ∗ R)) ⊢ Run c (P ⟨⟩) Q) :
    iprop(ctx m ρ K ∗ Send2 m ρ c 14 ∗ ((bigSep Finset.univ (waitNeed (F := F) c oS1)) ∗ R))
      ⊢ Run c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 v1 >>= P) Q := by
  rw [k0_part23_eq_skeleton]
  unfold k0_part23_skel
  simp only [semSignalWord, semWaitWord, Prog.lift, Prog.bind_op, Prog.bind_ret, Prog.pure_eq_ret, wp_deviceId]
  refine send2_step m ρ K c 14 (Fin.ext (k0_dev45_eq c)) (s2_sem 14 _ rfl _) (r2_sem c _ (k0_off1_eq c) _) (k0_off8_eq c) ?_
  refine turn m ρ K c (Ψ' := waitGot m ρ c oS1 fun _ => c) ?_
  refine wait_step m ρ K c oS1 (fun _ => c) (dutiesK_s1 c) _ (mayWait_end c oS1) 0 (s1_sem 0 _ rfl _) (by rfl) ?_
  refine wait_step m ρ K c oS1 (fun _ => c) (dutiesK_s1 c) _ (mayWait_end c oS1) 1 (s1_sem 1 _ rfl _) (by rfl) ?_
  exact h

/-- Part 24: first round, waits 2 to 5. -/
theorem part24 (c : Dev nD) {α : Type} {Q : α → sProp 𝕄} {P : (PUnit) → Prog (TpuEff nD τ sig (Elt F) Λ₀ .tc) α} {R : sProp 𝕄}
    (h : iprop(ctx m ρ K ∗ Out1 m ρ c 6 ∗ R) ⊢ Run c (P ⟨⟩) Q) :
    iprop(ctx m ρ K ∗ Out1 m ρ c 2 ∗ R)
      ⊢ Run c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (wd c) >>= P) Q := by
  rw [k0_part24_eq_skeleton]
  unfold k0_part24_skel
  simp only [semSignalWord, semWaitWord, Prog.lift, Prog.bind_op, Prog.bind_ret, Prog.pure_eq_ret, wp_deviceId]
  refine wait_step m ρ K c oS1 (fun _ => c) (dutiesK_s1 c) _ (mayWait_end c oS1) 2 (s1_sem 2 _ rfl _) (by rfl) ?_
  refine wait_step m ρ K c oS1 (fun _ => c) (dutiesK_s1 c) _ (mayWait_end c oS1) 3 (s1_sem 3 _ rfl _) (by rfl) ?_
  refine wait_step m ρ K c oS1 (fun _ => c) (dutiesK_s1 c) _ (mayWait_end c oS1) 4 (s1_sem 4 _ rfl _) (by rfl) ?_
  refine wait_step m ρ K c oS1 (fun _ => c) (dutiesK_s1 c) _ (mayWait_end c oS1) 5 (s1_sem 5 _ rfl _) (by rfl) ?_
  exact h

/-- Part 25: first round, waits 6 to 8. -/
theorem part25 (c : Dev nD) {α : Type} {Q : α → sProp 𝕄} {P : (PUnit) → Prog (TpuEff nD τ sig (Elt F) Λ₀ .tc) α} {R : sProp 𝕄}
    (h : iprop(ctx m ρ K ∗ Out1 m ρ c 9 ∗ R) ⊢ Run c (P ⟨⟩) Q) :
    iprop(ctx m ρ K ∗ Out1 m ρ c 6 ∗ R)
      ⊢ Run c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (wd c) >>= P) Q := by
  rw [k0_part25_eq_skeleton]
  unfold k0_part25_skel
  simp only [semSignalWord, semWaitWord, Prog.lift, Prog.bind_op, Prog.bind_ret, Prog.pure_eq_ret, wp_deviceId]
  refine wait_step m ρ K c oS1 (fun _ => c) (dutiesK_s1 c) _ (mayWait_end c oS1) 6 (s1_sem 6 _ rfl _) (by rfl) ?_
  refine wait_step m ρ K c oS1 (fun _ => c) (dutiesK_s1 c) _ (mayWait_end c oS1) 7 (s1_sem 7 _ rfl _) (by rfl) ?_
  refine wait_step m ρ K c oS1 (fun _ => c) (dutiesK_s1 c) _ (mayWait_end c oS1) 8 (s1_sem 8 _ rfl _) (by rfl) ?_
  exact h

/-- Part 26: first round, waits 9 to 11. -/
theorem part26 (c : Dev nD) {α : Type} {Q : α → sProp 𝕄} {P : (PUnit) → Prog (TpuEff nD τ sig (Elt F) Λ₀ .tc) α} {R : sProp 𝕄}
    (h : iprop(ctx m ρ K ∗ Out1 m ρ c 12 ∗ R) ⊢ Run c (P ⟨⟩) Q) :
    iprop(ctx m ρ K ∗ Out1 m ρ c 9 ∗ R)
      ⊢ Run c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (wd c) >>= P) Q := by
  rw [k0_part26_eq_skeleton]
  unfold k0_part26_skel
  simp only [semSignalWord, semWaitWord, Prog.lift, Prog.bind_op, Prog.bind_ret, Prog.pure_eq_ret, wp_deviceId]
  refine wait_step m ρ K c oS1 (fun _ => c) (dutiesK_s1 c) _ (mayWait_end c oS1) 9 (s1_sem 9 _ rfl _) (by rfl) ?_
  refine wait_step m ρ K c oS1 (fun _ => c) (dutiesK_s1 c) _ (mayWait_end c oS1) 10 (s1_sem 10 _ rfl _) (by rfl) ?_
  refine wait_step m ρ K c oS1 (fun _ => c) (dutiesK_s1 c) _ (mayWait_end c oS1) 11 (s1_sem 11 _ rfl _) (by rfl) ?_
  exact h

/-- Part 27: first round, waits 12 to 14. -/
theorem part27 (c : Dev nD) {α : Type} {Q : α → sProp 𝕄} {P : (PUnit) → Prog (TpuEff nD τ sig (Elt F) Λ₀ .tc) α} {R : sProp 𝕄}
    (h : iprop(ctx m ρ K ∗ Out1 m ρ c 15 ∗ R) ⊢ Run c (P ⟨⟩) Q) :
    iprop(ctx m ρ K ∗ Out1 m ρ c 12 ∗ R)
      ⊢ Run c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part27_eq_skeleton]
  unfold k0_part27_skel
  simp only [semSignalWord, semWaitWord, Prog.lift, Prog.bind_op, Prog.bind_ret, Prog.pure_eq_ret, wp_deviceId]
  refine wait_step m ρ K c oS1 (fun _ => c) (dutiesK_s1 c) _ (mayWait_end c oS1) 12 (s1_sem 12 _ rfl _) (by rfl) ?_
  refine wait_step m ρ K c oS1 (fun _ => c) (dutiesK_s1 c) _ (mayWait_end c oS1) 13 (s1_sem 13 _ rfl _) (by rfl) ?_
  refine wait_step m ρ K c oS1 (fun _ => c) (dutiesK_s1 c) _ (mayWait_end c oS1) 14 (s1_sem 14 _ rfl _) (by rfl) ?_
  exact h

end Cert.KernelIdealProof

end
-- ==== Proof.KernelIdeal.BodyE.lean ====
/-
# The arrivals of the second round, and the waits on what this device sent in it
-/
module

public import proofs.«01_k».proof.Proof.KernelIdeal.BodyD

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KC → ℕ)

/-- Part 28: arrivals 0 to 3. -/
theorem part28 (c : Dev nD) {α : Type} {Q : α → sProp 𝕄} {P : (BitVec 32) → Prog (TpuEff nD τ sig (Elt F) Λ₀ .tc) α} {R : sProp 𝕄}
    (h : ∀ v, iprop(ctx m ρ K ∗ In2 m ρ c 4 ∗ ((bigSep Finset.univ (waitGot m ρ c oS1 fun _ => c)) ∗ R)) ⊢ Run c (P v) Q) :
    iprop(ctx m ρ K ∗ Out1 m ρ c 15 ∗ ((bigSep Finset.univ (waitNeed (F := F) c (oR2 c))) ∗ R))
      ⊢ Run c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part28_eq_skeleton]
  unfold k0_part28_skel
  simp only [semSignalWord, semWaitWord, Prog.lift, Prog.bind_op, Prog.bind_ret, Prog.pure_eq_ret, wp_deviceId]
  refine turn m ρ K c (Ψ' := waitGot m ρ c (oR2 c) (peer c)) ?_
  refine wait_step m ρ K c (oR2 c) (peer c) (dutiesK_r2 c) _ (mayWait_end c (oR2 c)) 0 (r2_sem (peer c 0) _ (k0_off5_eq c 0) _) (by rfl) ?_
  refine wait_step m ρ K c (oR2 c) (peer c) (dutiesK_r2 c) _ (mayWait_end c (oR2 c)) 1 (r2_sem (peer c 1) _ (k0_off5_eq c 1) _) (by rfl) ?_
  refine wait_step m ρ K c (oR2 c) (peer c) (dutiesK_r2 c) _ (mayWait_end c (oR2 c)) 2 (r2_sem (peer c 2) _ (k0_off5_eq c 2) _) (by rfl) ?_
  refine wait_step m ρ K c (oR2 c) (peer c) (dutiesK_r2 c) _ (mayWait_end c (oR2 c)) 3 (r2_sem (peer c 3) _ (k0_off5_eq c 3) _) (by rfl) ?_
  exact h _

/-- Part 29: arrivals 4 to 6. -/
theorem part29 (c : Dev nD) (v0 : BitVec 32) {α : Type} {Q : α → sProp 𝕄} {P : (Σ' (v886 : BitVec 32), BitVec 32) → Prog (TpuEff nD τ sig (Elt F) Λ₀ .tc) α} {R : sProp 𝕄}
    (h : ∀ v, iprop(ctx m ρ K ∗ In2 m ρ c 7 ∗ R) ⊢ Run c (P ⟨v, 32#32⟩) Q) :
    iprop(ctx m ρ K ∗ In2 m ρ c 4 ∗ R)
      ⊢ Run c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 >>= P) Q := by
  rw [k0_part29_eq_skeleton]
  unfold k0_part29_skel
  simp only [semSignalWord, semWaitWord, Prog.lift, Prog.bind_op, Prog.bind_ret, Prog.pure_eq_ret, wp_deviceId]
  refine wait_step m ρ K c (oR2 c) (peer c) (dutiesK_r2 c) _ (mayWait_end c (oR2 c)) 4 (r2_sem (peer c 4) _ (k0_off5_eq c 4) _) (by rfl) ?_
  refine wait_step m ρ K c (oR2 c) (peer c) (dutiesK_r2 c) _ (mayWait_end c (oR2 c)) 5 (r2_sem (peer c 5) _ (k0_off5_eq c 5) _) (by rfl) ?_
  refine wait_step m ρ K c (oR2 c) (peer c) (dutiesK_r2 c) _ (mayWait_end c (oR2 c)) 6 (r2_sem (peer c 6) _ (k0_off5_eq c 6) _) (by rfl) ?_
  exact h _

/-- Part 30: arrivals 7 to 9. -/
theorem part30 (c : Dev nD) (v0 v1 : BitVec 32) {α : Type} {Q : α → sProp 𝕄} {P : (Σ' (v913 : BitVec 32), BitVec 32) → Prog (TpuEff nD τ sig (Elt F) Λ₀ .tc) α} {R : sProp 𝕄}
    (h : ∀ v, iprop(ctx m ρ K ∗ In2 m ρ c 10 ∗ R) ⊢ Run c (P ⟨v, 1#32⟩) Q) :
    iprop(ctx m ρ K ∗ In2 m ρ c 7 ∗ R)
      ⊢ Run c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 v1 >>= P) Q := by
  rw [k0_part30_eq_skeleton]
  unfold k0_part30_skel
  simp only [semSignalWord, semWaitWord, Prog.lift, Prog.bind_op, Prog.bind_ret, Prog.pure_eq_ret, wp_deviceId]
  refine wait_step m ρ K c (oR2 c) (peer c) (dutiesK_r2 c) _ (mayWait_end c (oR2 c)) 7 (r2_sem (peer c 7) _ (k0_off5_eq c 7) _) (by rfl) ?_
  refine wait_step m ρ K c (oR2 c) (peer c) (dutiesK_r2 c) _ (mayWait_end c (oR2 c)) 8 (r2_sem (peer c 8) _ (k0_off5_eq c 8) _) (by rfl) ?_
  refine wait_step m ρ K c (oR2 c) (peer c) (dutiesK_r2 c) _ (mayWait_end c (oR2 c)) 9 (r2_sem (peer c 9) _ (k0_off5_eq c 9) _) (by rfl) ?_
  exact h _

/-- Part 31: arrivals 10 to 12. -/
theorem part31 (c : Dev nD) (v0 v1 : BitVec 32) {α : Type} {Q : α → sProp 𝕄} {P : (PUnit) → Prog (TpuEff nD τ sig (Elt F) Λ₀ .tc) α} {R : sProp 𝕄}
    (h : iprop(ctx m ρ K ∗ In2 m ρ c 13 ∗ R) ⊢ Run c (P ⟨⟩) Q) :
    iprop(ctx m ρ K ∗ In2 m ρ c 10 ∗ R)
      ⊢ Run c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) v0 v1 >>= P) Q := by
  rw [k0_part31_eq_skeleton]
  unfold k0_part31_skel
  simp only [semSignalWord, semWaitWord, Prog.lift, Prog.bind_op, Prog.bind_ret, Prog.pure_eq_ret, wp_deviceId]
  refine wait_step m ρ K c (oR2 c) (peer c) (dutiesK_r2 c) _ (mayWait_end c (oR2 c)) 10 (r2_sem (peer c 10) _ (k0_off5_eq c 10) _) (by rfl) ?_
  refine wait_step m ρ K c (oR2 c) (peer c) (dutiesK_r2 c) _ (mayWait_end c (oR2 c)) 11 (r2_sem (peer c 11) _ (k0_off5_eq c 11) _) (by rfl) ?_
  refine wait_step m ρ K c (oR2 c) (peer c) (dutiesK_r2 c) _ (mayWait_end c (oR2 c)) 12 (r2_sem (peer c 12) _ (k0_off5_eq c 12) _) (by rfl) ?_
  exact h

/-- Part 32: the last arrivals; the first wait on the second round. -/
theorem part32 (c : Dev nD) {α : Type} {Q : α → sProp 𝕄} {P : (PUnit) → Prog (TpuEff nD τ sig (Elt F) Λ₀ .tc) α} {R : sProp 𝕄}
    (h : iprop(ctx m ρ K ∗ Out2 m ρ c 1 ∗ ((bigSep Finset.univ (waitGot m ρ c (oR2 c) (peer c))) ∗ R)) ⊢ Run c (P ⟨⟩) Q) :
    iprop(ctx m ρ K ∗ In2 m ρ c 13 ∗ ((bigSep Finset.univ (waitNeed (F := F) c oS2)) ∗ R))
      ⊢ Run c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (wd c) >>= P) Q := by
  rw [k0_part32_eq_skeleton]
  unfold k0_part32_skel
  simp only [semSignalWord, semWaitWord, Prog.lift, Prog.bind_op, Prog.bind_ret, Prog.pure_eq_ret, wp_deviceId]
  refine wait_step m ρ K c (oR2 c) (peer c) (dutiesK_r2 c) _ (mayWait_end c (oR2 c)) 13 (r2_sem (peer c 13) _ (k0_off5_eq c 13) _) (by rfl) ?_
  refine wait_step m ρ K c (oR2 c) (peer c) (dutiesK_r2 c) _ (mayWait_end c (oR2 c)) 14 (r2_sem (peer c 14) _ (k0_off5_eq c 14) _) (by rfl) ?_
  refine turn m ρ K c (Ψ' := waitGot m ρ c oS2 fun _ => c) ?_
  refine wait_step m ρ K c oS2 (fun _ => c) (dutiesK_s2 c) _ (mayWait_end c oS2) 0 (s2_sem 0 _ rfl _) (by rfl) ?_
  exact h

/-- Part 33: second round, waits 1 to 4. -/
theorem part33 (c : Dev nD) {α : Type} {Q : α → sProp 𝕄} {P : (Σ' (v992 : BitVec 32), BitVec 32) → Prog (TpuEff nD τ sig (Elt F) Λ₀ .tc) α} {R : sProp 𝕄}
    (h : ∀ v, iprop(ctx m ρ K ∗ Out2 m ρ c 5 ∗ R) ⊢ Run c (P ⟨v, 16#32⟩) Q) :
    iprop(ctx m ρ K ∗ Out2 m ρ c 1 ∗ R)
      ⊢ Run c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (wd c) >>= P) Q := by
  rw [k0_part33_eq_skeleton]
  unfold k0_part33_skel
  simp only [semSignalWord, semWaitWord, Prog.lift, Prog.bind_op, Prog.bind_ret, Prog.pure_eq_ret, wp_deviceId]
  refine wait_step m ρ K c oS2 (fun _ => c) (dutiesK_s2 c) _ (mayWait_end c oS2) 1 (s2_sem 1 _ rfl _) (by rfl) ?_
  refine wait_step m ρ K c oS2 (fun _ => c) (dutiesK_s2 c) _ (mayWait_end c oS2) 2 (s2_sem 2 _ rfl _) (by rfl) ?_
  refine wait_step m ρ K c oS2 (fun _ => c) (dutiesK_s2 c) _ (mayWait_end c oS2) 3 (s2_sem 3 _ rfl _) (by rfl) ?_
  refine wait_step m ρ K c oS2 (fun _ => c) (dutiesK_s2 c) _ (mayWait_end c oS2) 4 (s2_sem 4 _ rfl _) (by rfl) ?_
  exact h _

/-- Part 34: second round, waits 5 to 7. -/
theorem part34 (c : Dev nD) (v0 v1 : BitVec 32) {α : Type} {Q : α → sProp 𝕄} {P : (PUnit) → Prog (TpuEff nD τ sig (Elt F) Λ₀ .tc) α} {R : sProp 𝕄}
    (h : iprop(ctx m ρ K ∗ Out2 m ρ c 8 ∗ R) ⊢ Run c (P ⟨⟩) Q) :
    iprop(ctx m ρ K ∗ Out2 m ρ c 5 ∗ R)
      ⊢ Run c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (wd c) v0 v1 >>= P) Q := by
  rw [k0_part34_eq_skeleton]
  unfold k0_part34_skel
  simp only [semSignalWord, semWaitWord, Prog.lift, Prog.bind_op, Prog.bind_ret, Prog.pure_eq_ret, wp_deviceId]
  refine wait_step m ρ K c oS2 (fun _ => c) (dutiesK_s2 c) _ (mayWait_end c oS2) 5 (s2_sem 5 _ rfl _) (by rfl) ?_
  refine wait_step m ρ K c oS2 (fun _ => c) (dutiesK_s2 c) _ (mayWait_end c oS2) 6 (s2_sem 6 _ rfl _) (by rfl) ?_
  refine wait_step m ρ K c oS2 (fun _ => c) (dutiesK_s2 c) _ (mayWait_end c oS2) 7 (s2_sem 7 _ rfl _) (by rfl) ?_
  exact h

/-- Part 35: second round, waits 8 to 10. -/
theorem part35 (c : Dev nD) {α : Type} {Q : α → sProp 𝕄} {P : (PUnit) → Prog (TpuEff nD τ sig (Elt F) Λ₀ .tc) α} {R : sProp 𝕄}
    (h : iprop(ctx m ρ K ∗ Out2 m ρ c 11 ∗ R) ⊢ Run c (P ⟨⟩) Q) :
    iprop(ctx m ρ K ∗ Out2 m ρ c 8 ∗ R)
      ⊢ Run c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (wd c) >>= P) Q := by
  rw [k0_part35_eq_skeleton]
  unfold k0_part35_skel
  simp only [semSignalWord, semWaitWord, Prog.lift, Prog.bind_op, Prog.bind_ret, Prog.pure_eq_ret, wp_deviceId]
  refine wait_step m ρ K c oS2 (fun _ => c) (dutiesK_s2 c) _ (mayWait_end c oS2) 8 (s2_sem 8 _ rfl _) (by rfl) ?_
  refine wait_step m ρ K c oS2 (fun _ => c) (dutiesK_s2 c) _ (mayWait_end c oS2) 9 (s2_sem 9 _ rfl _) (by rfl) ?_
  refine wait_step m ρ K c oS2 (fun _ => c) (dutiesK_s2 c) _ (mayWait_end c oS2) 10 (s2_sem 10 _ rfl _) (by rfl) ?_
  exact h

end Cert.KernelIdealProof

end
-- ==== Proof.KernelIdeal.Body.lean ====
/-
# The whole body on one device

The parts in order, the resources handed from one to the next; at the end every counter the body uses is back at
zero and the result's staging buffer holds all the chunks.
-/
module

public import proofs.«01_k».proof.Proof.KernelIdeal.BodyB
public import proofs.«01_k».proof.Proof.KernelIdeal.BodyE

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KC → ℕ)

/-! ## What the body starts and ends with -/

theorem run_ret (c : Dev nD) {α : Type} {a : α} {A : sProp 𝕄} {Q : α → sProp 𝕄} (h : A ⊢ Q a) : A ⊢ Run c (.ret a) Q := by
  refine weaken h ?_
  show _ ⊢ wp frame _ Set.univ (Prog.ret a) Q
  rw [wp_ret]
  iintro H
  imodintro
  iexact H
theorem run_bind (c : Dev nD) {α β : Type} {p : Prog (TpuEff nD τ sig (Elt F) Λ₀ .tc) α} {k : α → Prog (TpuEff nD τ sig (Elt F) Λ₀ .tc) β}
    {A : sProp 𝕄} {Q : β → sProp 𝕄} (h : A ⊢ Run c p fun a => Run c (k a) Q) : A ⊢ Run c (p >>= k) Q := by
  refine weaken h (Entails.of_eq ?_)
  exact (wp_bind ..).symm

/-- The position of device `c` at each of a family of its cells. -/
def atOf (c : Dev nD) (o : Fin 15 → OC) (j : Fin 15) : sProp 𝕄 := atPos EX (kcell c (.inr (o j))) 0 ∅ 0
/-- The counter of each of a family of cells, at zero. -/
def zeroOf (c : Dev nD) (o : Fin 15 → OC) (j : Fin 15) : sProp 𝕄 := semVal (kcell c (.inr (o j))) 0

theorem need_of (c : Dev nD) (o : Fin 15 → OC) :
    iprop((bigSep Finset.univ fun j => cred (tallyAt (kcell c (.inr (o j))) () N)) ∗ bigSep Finset.univ (atOf (F := F) c o)) ⊢ (bigSep Finset.univ (waitNeed (F := F) c o) : sProp 𝕄) := by
  unfold waitNeed atOf
  rw [bigSep_sep']

theorem got_of (c : Dev nD) (o : Fin 15 → OC) (d : Fin 15 → Dev nD) :
    (bigSep Finset.univ (waitGot m ρ c o d) : sProp 𝕄) ⊢ iprop((bigSep Finset.univ (zeroOf (F := F) c o)) ∗ bigSep Finset.univ fun j => payK m ρ c (.inr (o j)) (d j)) := by
  unfold waitGot zeroOf
  rw [bigSep_sep']

/-- The unused slot joins the others. -/
theorem com_join (c : Dev nD) :
    iprop((∃ f, comPt (F := F) c c f) ∗ bigSep Finset.univ fun j => comPt c (peer c j) (comF m ρ c)) ⊢ (∃ f, stgPt c cc0_scratch1 f : sProp 𝕄) := by
  iintro ⟨⟨%f, H⟩, HC⟩
  iexists (fun i => if i ∈ (comC c).view.set then f i else comF m ρ c i)
  unfold stgPt
  rw [com_split, split_one c]
  isplitl [H]
  · have e : comPt (F := F) c c f = comPt c c (fun i => if i ∈ (comC c).view.set then f i else comF m ρ c i) := by
      unfold comPt; exact pointsTo_congr fun i hi => (if_pos hi).symm
    rw [← e]; iexact H
  · have e : ∀ j : Fin 15, comPt (F := F) c (peer c j) (comF m ρ c) = comPt c (peer c j) (fun i => if i ∈ (comC c).view.set then f i else comF m ρ c i) := by
      intro j
      unfold comPt
      refine pointsTo_congr fun i hi => (if_neg fun h => ?_).symm
      rw [set_comC] at hi h
      exact Finset.disjoint_left.mp (slots_disjoint (peer_ne c j)) hi h
    rw [bigSep_congr fun j _ => (e j).symm]
    iexact HC

/-- The chunks of the partial result join. -/
theorem own_join (c : Dev nD) :
    iprop(ownPt c c (ownF m ρ c) ∗ bigSep Finset.univ fun j => ownPt c (peer c j) (ownF m ρ c)) ⊢ (∃ f, stgPt c cc0_scratch0 f : sProp 𝕄) := by
  iintro H
  iexists (ownF m ρ c)
  unfold stgPt
  rw [own_split, split_one c]
  iexact H

/-- The chunks of the result join. -/
theorem out_join (c : Dev nD) :
    iprop(outPt c c kept (outF m ρ) ∗ (bigSep Finset.univ fun j => outPt c c (lent j) (outF m ρ)) ∗ bigSep Finset.univ fun j => outPt c (peer c j) fullShare (outF m ρ))
      ⊢ (stgPt c cc0_stg4_0 (outF m ρ) : sProp 𝕄) := by
  iintro ⟨Hk, Hl, Ho⟩
  unfold stgPt
  rw [out_split, split_one c, out_shares]
  isplitl [Hk Hl]
  · isplitl [Hk]; · iexact Hk
    iexact Hl
  · iexact Ho

/-- What the signals hand to the peers, from whole buffers. -/
theorem sig_of (c : Dev nD) :
    iprop((bigSep Finset.univ fun j => dutyTok EX (kcell (peer c j) kB) 0 c) ∗ (∃ f, stgPt (F := F) c cc0_scratch1 f) ∗ (∃ f, stgPt (F := F) c cc0_stg4_0 f))
      ⊢ iprop(bigSep Finset.univ (sigNeed m ρ c) ∗ (∃ f, comPt (F := F) c c f) ∗ (∃ f, outPt (F := F) c c fullShare f)) := by
  iintro ⟨Ht, ⟨%f, Hf⟩, ⟨%g, Hg⟩⟩
  unfold stgPt
  ihave Hf := (Entails.of_eq ((com_split c f).trans (split_one c _))) $$ Hf
  ihave Hg := (Entails.of_eq ((out_split c g).trans (split_one c _))) $$ Hg
  icases Hf with ⟨Hf, Hfs⟩
  icases Hg with ⟨Hg, Hgs⟩
  unfold sigNeed
  rw [bigSep_sep', bigSep_congr fun j _ => show payK m ρ (peer c j) kB c = iprop((∃ f, comPt (F := F) c (peer c j) f) ∗ ∃ f, outPt (F := F) c (peer c j) fullShare f) from rfl, bigSep_sep']
  isplitl [Ht Hfs Hgs]
  · isplitl [Ht]; · iexact Ht
    isplitl [Hfs]
    · iapply (show (bigSep Finset.univ fun j => comPt c (peer c j) f : sProp 𝕄) ⊢ bigSep Finset.univ fun j => iprop(∃ f, comPt (F := F) c (peer c j) f) from
        bigSep_mono fun j _ => (show comPt c (peer c j) f ⊢ iprop(∃ f, comPt (F := F) c (peer c j) f) by iintro H; iexists f; iexact H))
      iexact Hfs
    · iapply (show (bigSep Finset.univ fun j => outPt c (peer c j) fullShare g : sProp 𝕄) ⊢ bigSep Finset.univ fun j => iprop(∃ f, outPt (F := F) c (peer c j) fullShare f) from
        bigSep_mono fun j _ => (show outPt c (peer c j) fullShare g ⊢ iprop(∃ f, outPt (F := F) c (peer c j) fullShare f) by iintro H; iexists g; iexact H))
      iexact Hgs
  isplitl [Hf]
  · iexists f; iexact Hf
  · iexists g; iexact Hg

/-- What the body of device `c` starts from. -/
def bodyIn (c : Dev nD) : sProp 𝕄 :=
  iprop(owing c (owe c 0 0 0) ∗ (bigSep Finset.univ fun j => dutyTok EX (kcell (peer c j) kB) 0 c) ∗ toks1 (F := F) c ∗ toks2 (F := F) c ∗ barNeed (F := F) c
    ∗ (bigSep Finset.univ (waitNeed (F := F) c (oR1 c))) ∗ (bigSep Finset.univ (waitNeed (F := F) c (oR2 c))) ∗ (bigSep Finset.univ (atOf (F := F) c oS1)) ∗ (bigSep Finset.univ (atOf (F := F) c oS2))
    ∗ stgPt c cc0_stg0_0 (xF m ρ c) ∗ stgPt c cc0_stg1_0 (rwF m ρ c) ∗ stgPt c cc0_stg2_0 (ixF m ρ c) ∗ stgPt c cc0_stg3_0 (ewF m ρ c)
    ∗ (∃ f, stgPt (F := F) c cc0_stg4_0 f) ∗ (∃ f, stgPt (F := F) c cc0_scratch0 f) ∗ (∃ f, stgPt (F := F) c cc0_scratch1 f))

/-- What it ends with. -/
def bodyOut (c : Dev nD) : sProp 𝕄 :=
  iprop(owing c (owe c 15 15 15) ∗ semVal (kcell c kB) 0
    ∗ (bigSep Finset.univ (zeroOf (F := F) c oS1)) ∗ (bigSep Finset.univ (zeroOf (F := F) c oS2)) ∗ (bigSep Finset.univ (zeroOf (F := F) c (oR1 c))) ∗ (bigSep Finset.univ (zeroOf (F := F) c (oR2 c)))
    ∗ stgPt c cc0_stg0_0 (xF m ρ c) ∗ stgPt c cc0_stg1_0 (rwF m ρ c) ∗ stgPt c cc0_stg2_0 (ixF m ρ c) ∗ stgPt c cc0_stg3_0 (ewF m ρ c)
    ∗ stgPt c cc0_stg4_0 (outF m ρ) ∗ (∃ f, stgPt (F := F) c cc0_scratch0 f) ∗ (∃ f, stgPt (F := F) c cc0_scratch1 f))

/-- The waits' ends: everything collected is put together. -/
theorem finish (c : Dev nD) (Z : sProp 𝕄) :
    iprop(Out2 m ρ c 15 ∗ (bigSep Finset.univ (waitGot m ρ c (oR2 c) (peer c))) ∗ (bigSep Finset.univ (waitGot m ρ c oS1 fun _ => c)) ∗ (bigSep Finset.univ (waitGot m ρ c (oR1 c) (peer c)))
      ∗ ownPt c c (ownF m ρ c) ∗ outPt c c kept (outF m ρ) ∗ (∃ f, comPt (F := F) c c f) ∗ semVal (kcell c kB) 0 ∗ stgPt c cc0_stg0_0 (xF m ρ c) ∗ stgPt c cc0_stg1_0 (rwF m ρ c) ∗ stgPt c cc0_stg2_0 (ixF m ρ c) ∗ stgPt c cc0_stg3_0 (ewF m ρ c) ∗ Z)
      ⊢ iprop(bodyOut m ρ c ∗ Z) := by
  unfold Out2 Loop
  rw [tail_end, done_end, bigSep_empty]
  iintro ⟨⟨HO, -, Hs2⟩, Hr2, Hs1, Hr1, Hown, Hout, Hcom, Hb, Hx, Hrw, Hix, Hew, HZ⟩
  ihave Hs2 := (got_of m ρ c oS2 fun _ => c) $$ Hs2
  ihave Hs1 := (got_of m ρ c oS1 fun _ => c) $$ Hs1
  ihave Hr2 := (got_of m ρ c (oR2 c) (peer c)) $$ Hr2
  ihave Hr1 := (got_of m ρ c (oR1 c) (peer c)) $$ Hr1
  icases Hs2 with ⟨Zs2, Ps2⟩
  icases Hs1 with ⟨Zs1, Ps1⟩
  icases Hr2 with ⟨Zr2, Pr2⟩
  icases Hr1 with ⟨Zr1, Pr1⟩
  unfold bodyOut
  isplitr [HZ]
  · isplitl [HO]; · iexact HO
    isplitl [Hb]; · iexact Hb
    isplitl [Zs1]; · iexact Zs1
    isplitl [Zs2]; · iexact Zs2
    isplitl [Zr1]; · iexact Zr1
    isplitl [Zr2]; · iexact Zr2
    isplitl [Hx]; · iexact Hx
    isplitl [Hrw]; · iexact Hrw
    isplitl [Hix]; · iexact Hix
    isplitl [Hew]; · iexact Hew
    isplitl [Hout Ps2 Pr2]
    · iapply (out_join m ρ c)
      isplitl [Hout]; · iexact Hout
      isplitl [Ps2]; · iexact Ps2
      iexact Pr2
    isplitl [Hown Ps1]
    · iapply (own_join m ρ c)
      isplitl [Hown]; · iexact Hown
      iexact Ps1
    · iapply (com_join m ρ c)
      isplitl [Hcom]; · iexact Hcom
      iexact Pr1
  · iexact HZ

/-- All but the last two waits. -/
theorem part36 (c : Dev nD) {Q : BitVec 32 → sProp 𝕄} {Z : sProp 𝕄}
    (h : iprop((ctx m ρ K) ∗ (Out2 m ρ c 13) ∗ (bigSep Finset.univ (waitGot m ρ c (oR2 c) (peer c))) ∗ (bigSep Finset.univ (waitGot m ρ c oS1 fun _ => c)) ∗ (bigSep Finset.univ (waitGot m ρ c (oR1 c) (peer c))) ∗ (outPt c c kept (outF m ρ)) ∗ (ownPt c c (ownF m ρ c)) ∗ (stgPt c cc0_stg3_0 (ewF m ρ c)) ∗ (semVal (kcell c kB) 0) ∗ (stgPt c cc0_stg0_0 (xF m ρ c)) ∗ (stgPt c cc0_stg1_0 (rwF m ρ c)) ∗ (stgPt c cc0_stg2_0 (ixF m ρ c)) ∗ (∃ f, comPt (F := F) c c f) ∗ (Z)) ⊢ Q (wd c)) :
    iprop(ctx m ρ K ∗ bodyIn m ρ c ∗ Z) ⊢ Run c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) Q := by
  rw [k0_part36_eq_skeleton]
  unfold k0_part36_skel
  refine weaken (B := iprop((ctx m ρ K) ∗ (Loop c (owe c 0 0 0) 0 (sigNeed m ρ c) (fun _ => iprop(emp))) ∗ (stgPt c cc0_stg0_0 (xF m ρ c)) ∗ (stgPt c cc0_stg1_0 (rwF m ρ c)) ∗ (stgPt c cc0_stg2_0 (ixF m ρ c)) ∗ (stgPt c cc0_stg3_0 (ewF m ρ c)) ∗ (∃ f, stgPt (F := F) c cc0_scratch0 f) ∗ (∃ f, comPt (F := F) c c f) ∗ (∃ f, outPt (F := F) c c fullShare f) ∗ (toks1 (F := F) c) ∗ (toks2 (F := F) c) ∗ (barNeed (F := F) c) ∗ (bigSep Finset.univ (waitNeed (F := F) c (oR1 c))) ∗ (bigSep Finset.univ (waitNeed (F := F) c (oR2 c))) ∗ (bigSep Finset.univ (atOf (F := F) c oS1)) ∗ (bigSep Finset.univ (atOf (F := F) c oS2)) ∗ (Z))) ?_ ?_
  · iintro ⟨#Hc, HI, HZ⟩
    unfold bodyIn
    icases HI with ⟨Ho, Ht, HT1, HT2, HB, HR1, HR2, HS1, HS2, Hx, Hrw, Hix, Hew, Hst, HE, Hcm⟩
    ihave H := (sig_of m ρ c) $$ [Ht Hst Hcm]
    · isplitl [Ht]; · iexact Ht
      isplitl [Hcm]; · iexact Hcm
      iexact Hst
    icases H with ⟨Hsig, HC, HO⟩
    isplitr; · iexact Hc
    isplitl [Ho Hsig]
    · unfold Loop
      rw [tail_zero, done_zero, bigSep_empty]
      isplitl [Ho]; · iexact Ho
      isplitl [Hsig]; · iexact Hsig
      iempintro
    iframe
  refine part1 m ρ K c fun v24 v => ?_
  refine part2 m ρ K c v24 v fun v48 v => ?_
  refine part3 m ρ K c v48 v ?_
  refine weaken (B := iprop((stgPt c cc0_stg2_0 (ixF m ρ c)) ∗ (stgPt c cc0_stg3_0 (ewF m ρ c)) ∗ (ctx m ρ K) ∗ (owing c (owe c 15 0 0)) ∗ (stgPt c cc0_stg0_0 (xF m ρ c)) ∗ (stgPt c cc0_stg1_0 (rwF m ρ c)) ∗ (∃ f, stgPt (F := F) c cc0_scratch0 f) ∗ (∃ f, comPt (F := F) c c f) ∗ (∃ f, outPt (F := F) c c fullShare f) ∗ (toks1 (F := F) c) ∗ (toks2 (F := F) c) ∗ (barNeed (F := F) c) ∗ (bigSep Finset.univ (waitNeed (F := F) c (oR1 c))) ∗ (bigSep Finset.univ (waitNeed (F := F) c (oR2 c))) ∗ (bigSep Finset.univ (atOf (F := F) c oS1)) ∗ (bigSep Finset.univ (atOf (F := F) c oS2)) ∗ (Z))) ?_ ?_
  · iintro ⟨#Hc, HL, Hx, Hrw, Hix, Hew, HE, HC, HO, HT1, HT2, HB, HR1, HR2, HS1, HS2, HZ⟩
    unfold Loop
    icases HL with ⟨Ho, -⟩
    isplitl [Hix]; · iexact Hix
    isplitl [Hew]; · iexact Hew
    isplitr; · iexact Hc
    iframe
  refine part4 m ρ c ?_
  refine weaken (B := iprop((ctx m ρ K) ∗ (owing c (owe c 15 0 0)) ∗ (barNeed (F := F) c) ∗ (stgPt c cc0_stg3_0 (ewF m ρ c)) ∗ (∃ f, stgPt (F := F) c cc0_scratch0 f) ∗ (toks1 (F := F) c) ∗ (stgPt c cc0_stg0_0 (xF m ρ c)) ∗ (stgPt c cc0_stg1_0 (rwF m ρ c)) ∗ (stgPt c cc0_stg2_0 (ixF m ρ c)) ∗ (∃ f, comPt (F := F) c c f) ∗ (∃ f, outPt (F := F) c c fullShare f) ∗ (toks2 (F := F) c) ∗ (bigSep Finset.univ (waitNeed (F := F) c (oR1 c))) ∗ (bigSep Finset.univ (waitNeed (F := F) c (oR2 c))) ∗ (bigSep Finset.univ (atOf (F := F) c oS1)) ∗ (bigSep Finset.univ (atOf (F := F) c oS2)) ∗ (Z))) ?_ ?_
  · iintro ⟨Hix, Hew, #Hc, Ho, Hx, Hrw, HE, HC, HO, HT1, HT2, HB, HR1, HR2, HS1, HS2, HZ⟩
    isplitr; · iexact Hc
    iframe
  refine part5 m ρ K c fun v => ?_
  refine part6 m ρ K c v fun v => ?_
  refine part7 m ρ K c v _ ?_
  refine part8 m ρ K c ?_
  refine part9 m ρ K c fun v => ?_
  refine part10 m ρ K c v fun v => ?_
  refine weaken (B := iprop(ctx m ρ K ∗ Loop c (owe c 15 15 0) 15 (need1 m ρ c) (got1 c) ∗ (((bigSep Finset.univ (waitNeed (F := F) c (oR1 c))) ∗ ((outNeed (F := F) c) ∗ (stgPt c cc0_stg3_0 (ewF m ρ c)) ∗ (semVal (kcell c kB) 0) ∗ (stgPt c cc0_stg0_0 (xF m ρ c)) ∗ (stgPt c cc0_stg1_0 (rwF m ρ c)) ∗ (stgPt c cc0_stg2_0 (ixF m ρ c)) ∗ (∃ f, comPt (F := F) c c f) ∗ (∃ f, outPt (F := F) c c fullShare f) ∗ (toks2 (F := F) c) ∗ (bigSep Finset.univ (waitNeed (F := F) c (oR2 c))) ∗ (bigSep Finset.univ (atOf (F := F) c oS1)) ∗ (bigSep Finset.univ (atOf (F := F) c oS2)) ∗ (Z))) ∗ ownPt c c (ownF m ρ c)))) ?_ ?_
  · iintro ⟨#Hc, HL, HW, HN, Hew, Hb, Hx, Hrw, Hix, HC, HO, HT2, HR1, HR2, HS1, HS2, HZ⟩
    isplitr; · iexact Hc
    isplitl [HL]; · iexact HL
    isplitr [HW]
    · isplitl [HR1]; · iexact HR1
      iframe
    · iexact HW
  refine part11 m ρ K c v fun v => ?_
  refine part12 m ρ K c _ v _ fun v => ?_
  refine part13 m ρ K c _ v fun v => ?_
  refine part14 m ρ K c _ v fun v => ?_
  refine part15 m ρ K c _ v fun v => ?_
  refine part16 m ρ K c _ v fun v => ?_
  refine weaken (B := iprop((ctx m ρ K) ∗ (Recv m ρ c 13) ∗ (∃ f, outPt (F := F) c c fullShare f) ∗ (outNeed (F := F) c) ∗ (toks2 (F := F) c) ∗ (bigSep Finset.univ (got1 (F := F) c)) ∗ (ownPt c c (ownF m ρ c)) ∗ (stgPt c cc0_stg3_0 (ewF m ρ c)) ∗ (semVal (kcell c kB) 0) ∗ (stgPt c cc0_stg0_0 (xF m ρ c)) ∗ (stgPt c cc0_stg1_0 (rwF m ρ c)) ∗ (stgPt c cc0_stg2_0 (ixF m ρ c)) ∗ (∃ f, comPt (F := F) c c f) ∗ (bigSep Finset.univ (waitNeed (F := F) c (oR2 c))) ∗ (bigSep Finset.univ (atOf (F := F) c oS1)) ∗ (bigSep Finset.univ (atOf (F := F) c oS2)) ∗ (Z))) ?_ ?_
  · iintro ⟨#Hc, HL, HG, ⟨HN, Hew, Hb, Hx, Hrw, Hix, HC, HO, HT2, HR2, HS1, HS2, HZ⟩, HW⟩
    isplitr; · iexact Hc
    isplitl [HL]; · iexact HL
    iframe
  refine part17 m ρ K c rfl v ?_
  refine part18 m ρ K c fun v => ?_
  refine part19 m ρ K c v _ fun v => ?_
  refine part20 m ρ K c v ?_
  refine part21 m ρ K c ?_
  refine part22 m ρ K c fun v => ?_
  refine weaken (B := iprop((ctx m ρ K) ∗ (Send2 m ρ c 14) ∗ (bigSep Finset.univ (waitNeed (F := F) c oS1)) ∗ (bigSep Finset.univ (waitGot m ρ c (oR1 c) (peer c))) ∗ (outPt c c kept (outF m ρ)) ∗ (ownPt c c (ownF m ρ c)) ∗ (stgPt c cc0_stg3_0 (ewF m ρ c)) ∗ (semVal (kcell c kB) 0) ∗ (stgPt c cc0_stg0_0 (xF m ρ c)) ∗ (stgPt c cc0_stg1_0 (rwF m ρ c)) ∗ (stgPt c cc0_stg2_0 (ixF m ρ c)) ∗ (∃ f, comPt (F := F) c c f) ∗ (bigSep Finset.univ (waitNeed (F := F) c (oR2 c))) ∗ (bigSep Finset.univ (atOf (F := F) c oS2)) ∗ (Z))) ?_ ?_
  · iintro ⟨#Hc, HL, HGR, HK, HG, HW, Hew, Hb, Hx, Hrw, Hix, HC, HR2, HS1, HS2, HZ⟩
    isplitr; · iexact Hc
    isplitl [HL]; · iexact HL
    isplitl [HG HS1]
    · iapply (need_of c oS1)
      isplitl [HG]; · iexact HG
      iexact HS1
    iframe
  refine part23 m ρ K c v _ ?_
  refine part24 m ρ K c ?_
  refine part25 m ρ K c ?_
  refine part26 m ρ K c ?_
  refine part27 m ρ K c ?_
  refine weaken (B := iprop((ctx m ρ K) ∗ (Out1 m ρ c 15) ∗ (bigSep Finset.univ (waitNeed (F := F) c (oR2 c))) ∗ (bigSep Finset.univ (got2 (F := F) c)) ∗ (bigSep Finset.univ (waitGot m ρ c (oR1 c) (peer c))) ∗ (outPt c c kept (outF m ρ)) ∗ (ownPt c c (ownF m ρ c)) ∗ (stgPt c cc0_stg3_0 (ewF m ρ c)) ∗ (semVal (kcell c kB) 0) ∗ (stgPt c cc0_stg0_0 (xF m ρ c)) ∗ (stgPt c cc0_stg1_0 (rwF m ρ c)) ∗ (stgPt c cc0_stg2_0 (ixF m ρ c)) ∗ (∃ f, comPt (F := F) c c f) ∗ (bigSep Finset.univ (atOf (F := F) c oS2)) ∗ (Z))) ?_ ?_
  · iintro ⟨#Hc, HL, HG, HGR, HK, HW, Hew, Hb, Hx, Hrw, Hix, HC, HR2, HS2, HZ⟩
    isplitr; · iexact Hc
    isplitl [HL]; · iexact HL
    iframe
  refine part28 m ρ K c fun v => ?_
  refine part29 m ρ K c v fun v => ?_
  refine part30 m ρ K c v _ fun v => ?_
  refine part31 m ρ K c v _ ?_
  refine weaken (B := iprop((ctx m ρ K) ∗ (In2 m ρ c 13) ∗ (bigSep Finset.univ (waitNeed (F := F) c oS2)) ∗ (bigSep Finset.univ (waitGot m ρ c oS1 fun _ => c)) ∗ (bigSep Finset.univ (waitGot m ρ c (oR1 c) (peer c))) ∗ (outPt c c kept (outF m ρ)) ∗ (ownPt c c (ownF m ρ c)) ∗ (stgPt c cc0_stg3_0 (ewF m ρ c)) ∗ (semVal (kcell c kB) 0) ∗ (stgPt c cc0_stg0_0 (xF m ρ c)) ∗ (stgPt c cc0_stg1_0 (rwF m ρ c)) ∗ (stgPt c cc0_stg2_0 (ixF m ρ c)) ∗ (∃ f, comPt (F := F) c c f) ∗ (Z))) ?_ ?_
  · iintro ⟨#Hc, HL, HGS, HG, HGR, HK, HW, Hew, Hb, Hx, Hrw, Hix, HC, HS2, HZ⟩
    isplitr; · iexact Hc
    isplitl [HL]; · iexact HL
    isplitl [HG HS2]
    · iapply (need_of c oS2)
      isplitl [HG]; · iexact HG
      iexact HS2
    iframe
  refine part32 m ρ K c ?_
  refine part33 m ρ K c fun v => ?_
  refine part34 m ρ K c v _ ?_
  refine part35 m ρ K c ?_
  simp only [Prog.lift, Prog.bind_op, Prog.bind_ret, Prog.pure_eq_ret]
  refine wait_step m ρ K c oS2 (fun _ => c) (dutiesK_s2 c) _ (mayWait_end c oS2) 11 (s2_sem 11 _ rfl _) (by rfl) ?_
  refine wait_step m ρ K c oS2 (fun _ => c) (dutiesK_s2 c) _ (mayWait_end c oS2) 12 (s2_sem 12 _ rfl _) (by rfl) ?_
  exact run_ret c h

/-- The body of device `c`. -/
theorem body_run (c : Dev nD) {Q : PUnit → sProp 𝕄} {Z : sProp 𝕄}
    (h : iprop(ctx m ρ K ∗ bodyOut m ρ c ∗ Z) ⊢ Q ⟨⟩) :
    iprop(ctx m ρ K ∗ bodyIn m ρ c ∗ Z) ⊢ Run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) Q := by
  rw [cc0_body_eq_skeleton]
  unfold cc0_body_skel
  refine run_bind c ?_
  refine part36 m ρ K c ?_
  simp only [Prog.lift, Prog.bind_op, Prog.bind_ret, Prog.pure_eq_ret]
  refine wait_step m ρ K c oS2 (fun _ => c) (dutiesK_s2 c) _ (mayWait_end c oS2) 13 (s2_sem 13 _ rfl _) (by rfl) ?_
  refine wait_step m ρ K c oS2 (fun _ => c) (dutiesK_s2 c) _ (mayWait_end c oS2) 14 (s2_sem 14 _ rfl _) (by rfl) ?_
  refine run_ret c ?_
  refine weaken ?_ h
  iintro ⟨#Hc, HL, HR2, HS1, HR1, HK, HW, Hew, Hb, Hx, Hrw, Hix, HC, HZ⟩
  isplitr; · iexact Hc
  iapply (finish m ρ c Z)
  isplitl [HL]; · iexact HL
  iframe

end Cert.KernelIdealProof

end
-- ==== Proof.KernelIdeal.Launch.lean ====
/-
# The launch: every device's run from the initial state, and what it leaves

The protocol's cells are allocated for all devices at once, the duty tokens dealt to the devices that pay, and
what every device owes at launch is what the others may wait for.
-/
module

public import proofs.«01_k».proof.Proof.KernelIdeal.Body
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The tokens device `c` pays with. -/
def payToks (c : Dev nD) : sProp 𝕄 :=
  iprop((bigSep Finset.univ fun j => dutyTok EX (kcell (peer c j) kB) 0 c) ∗ toks1 (F := F) c ∗ toks2 (F := F) c)
/-- What a device alone holds: its position at each of its cells and those tokens. -/
def linear (c : Dev nD) : sProp 𝕄 := iprop((bigSep Finset.univ fun k : KC => atPos EX (kcell c k) 0 ∅ 0) ∗ payToks (F := F) c)
def G' (c : Dev nD) : sProp 𝕄 := iprop(∃ K, recs m ρ K ∗ linear (F := F) c)
/-- What it may wait for. -/
def creditsOf (c : Dev nD) : sProp 𝕄 :=
  iprop(cred (tallyAt (kcell c kB) () 15) ∗ (bigSep Finset.univ fun j => cred (tallyAt (kcell c (kR1 (peer c j))) () N))
    ∗ bigSep Finset.univ fun j => cred (tallyAt (kcell c (kR2 (peer c j))) () N))
def start (c : Dev nD) : sProp 𝕄 := iprop(G' m ρ c ∗ creditsOf (F := F) c ∗ levAts L lv)

def scr (c : Dev nD) : sProp 𝕄 := iprop((∃ f, stgPt (F := F) c cc0_scratch0 f) ∗ ∃ f, stgPt (F := F) c cc0_scratch1 f)
/-- Before the body, and after. -/
def Φ₀ (c : Dev nD) : sProp 𝕄 := iprop(start m ρ c ∗ scr (F := F) c)
def Φ₁ (c : Dev nD) : sProp 𝕄 := iprop((bigSep Finset.univ fun k : KC => semVal (kcell c k) 0) ∗ scr (F := F) c)

abbrev O₀ (c : Dev nD) : CellTallies nD τ sig Unit := owe c 0 0 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xF m ρ c
    | ⟨1, _⟩ => rwF m ρ c
    | ⟨2, _⟩ => ixF m ρ c
    | ⟨3, _⟩ => ewF m ρ c
    | ⟨4, _⟩ => outF m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A family over the cells of a device, grouped. -/
theorem cells_split (c : Dev nD) (Φ : KC → sProp 𝕄) :
    bigSep Finset.univ Φ = iprop(Φ kB ∗ (((bigSep Finset.univ fun k => Φ (kS1 k)) ∗ bigSep Finset.univ fun k => Φ (kS2 k))
      ∗ ((Φ (kR1 c) ∗ bigSep Finset.univ fun j => Φ (kR1 (peer c j))) ∗ (Φ (kR2 c) ∗ bigSep Finset.univ fun j => Φ (kR2 (peer c j)))))) := by
  rw [bigSep_univ_sum, bigSep_univ_sum, bigSep_univ_sum, bigSep_univ_sum, split_one c fun s => Φ (kR1 s), split_one c fun s => Φ (kR2 s)]
  rw [show (Finset.univ : Finset Unit) = {()} from rfl, bigSep_singleton]
  rfl

/-! ## The body's obligation -/

/-- A cell that nobody pays closes at once. -/
theorem close_self (K : Dev nD × KC → ℕ) (c : Dev nD) (k : KC) (h : dutiesK c k = ∅) :
    iprop(ctx m ρ K ∗ atPos EX (kcell c k) 0 ∅ 0) ⊢ (|={Set.univ}=> semVal (kcell c k) 0 : sProp 𝕄) := by
  unfold ctx
  iintro ⟨⟨#Hr, #Hl⟩, Hat⟩
  imod (Rounds.cell_close EX (sched m ρ) (Set.mem_univ (K (c, k))) (fun h => h) (R := 0) (duties_none m ρ c k h)) $$ [Hat] with Hz
  · isplitr
    · iapply (recs_inv m ρ K c k); iexact Hr
    · iexact Hat
  imodintro
  iexact Hz

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ (F := F) c ∗ (dats m ρ 0 c).owesAt () t₀.succ ∗ stg c cc0_stg0_0 (xF m ρ c) ∗ stg c cc0_stg1_0 (rwF m ρ c)
    ∗ stg c cc0_stg2_0 (ixF m ρ c) ∗ stg c cc0_stg3_0 (ewF m ρ c) ∗ stg c cc0_stg4_0 (outF m ρ))

theorem fetch_in (w : Fin cfg0.W) (hw : w.val < 4) (t : Fin cfg0.N) : (cfg0.win w).fetch t = true := by
  rw [fin_N t]; revert hw; revert w; decide

/-- What a staging buffer of an input holds before the body is the fetched block. -/
theorem stg_in (c : Dev nD) (b : Ref sig .tc) (X Y : b.ty.Contents (Elt F)) (h : X = Y) : stg c b X ⊢ stgPt c b Y := by
  subst h
  unfold stgPt
  iintro ⟨%f, %hf, H⟩
  subst hf
  iexact H
theorem stg_out (c : Dev nD) (b : Ref sig .tc) (X : b.ty.Contents (Elt F)) : stgPt c b X ⊢ stg c b X := by
  unfold stgPt
  iintro H
  iexists X
  isplitr; · (ipureintro; rfl)
  iexact H

/-- What the body leaves is what the pipeline takes back. -/
theorem body_exit (K : Dev nD × KC → ℕ) (c : Dev nD) :
    iprop(ctx m ρ K ∗ bodyOut m ρ c ∗ semVal (kcell c (kR1 c)) 0 ∗ semVal (kcell c (kR2 c)) 0) ⊢ bodyPost m ρ c := by
  unfold bodyOut owing bodyPost Φ₁ scr Dat.owesAt Pipeline.owesWithin
  rw [show (dats m ρ 0 c).owed t₀.succ = 0 from rfl, owe_none]
  iintro ⟨-, ⟨⟨%W', HO⟩, HzB, HzS1, HzS2, HzR1, HzR2, Hx, Hrw, Hix, Hew, Hst, Hs0, Hs1⟩, Hz1, Hz2⟩
  isplitl [HzB HzS1 HzS2 HzR1 HzR2 Hz1 Hz2 Hs0 Hs1]
  · isplitr [Hs0 Hs1]
    · iapply (Entails.of_eq (cells_split c fun k => semVal (kcell c k) 0).symm)
      isplitl [HzB]; · iexact HzB
      isplitl [HzS1 HzS2]
      · isplitl [HzS1]; · iexact HzS1
        iexact HzS2
      isplitl [Hz1 HzR1]
      · isplitl [Hz1]; · iexact Hz1
        iexact HzR1
      · isplitl [Hz2]; · iexact Hz2
        iexact HzR2
    · isplitl [Hs0]; · iexact Hs0
      iexact Hs1
  isplitl [HO]
  · iexists W'
    isplitr; · (ipureintro; exact fun _ _ => Or.inl trivial)
    iexact HO
  isplitl [Hx]; · (iapply (stg_out c cc0_stg0_0 _); iexact Hx)
  isplitl [Hrw]; · (iapply (stg_out c cc0_stg1_0 _); iexact Hrw)
  isplitl [Hix]; · (iapply (stg_out c cc0_stg2_0 _); iexact Hix)
  isplitl [Hew]; · (iapply (stg_out c cc0_stg3_0 _); iexact Hew)
  iapply (stg_out c cc0_stg4_0 _); iexact Hst

set_option maxHeartbeats 800000 in
theorem sound_body (c : Dev nD) :
    bodyPre m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c) := by
  unfold bodyPre Φ₀ start G' linear payToks creditsOf scr
  iintro ⟨⟨⟨⟨%K, #Hrec, Hat, Htb, Ht1, Ht2⟩, ⟨HcB, Hc1, Hc2⟩, #Hlev⟩, Hs0, Hs1⟩, Ho, ⟨%d0, Hx⟩, ⟨%d1, Hrw⟩, ⟨%d2, Hix⟩, ⟨%d3, Hew⟩, ⟨%d4, %f4, %hf4, Hst⟩⟩
  unfold Dat.owesAt Pipeline.owesWithin
  icases Ho with ⟨%W, %hW, HO⟩
  rw [show (dats m ρ 0 c).owed t₀.castSucc = owe c 0 0 0 from rfl]
  ihave Hx := (stg_in c cc0_stg0_0 _ (xF m ρ c) (by unfold Dat.before; rw [if_pos (fetch_in 0 (by decide) t₀)]; rfl)) $$ Hx
  ihave Hrw := (stg_in c cc0_stg1_0 _ (rwF m ρ c) (by unfold Dat.before; rw [if_pos (fetch_in 1 (by decide) t₀)]; rfl)) $$ Hrw
  ihave Hix := (stg_in c cc0_stg2_0 _ (ixF m ρ c) (by unfold Dat.before; rw [if_pos (fetch_in 2 (by decide) t₀)]; rfl)) $$ Hix
  ihave Hew := (stg_in c cc0_stg3_0 _ (ewF m ρ c) (by unfold Dat.before; rw [if_pos (fetch_in 3 (by decide) t₀)]; rfl)) $$ Hew
  ihave Hat := (Entails.of_eq (cells_split c fun k => atPos EX (kcell c k) 0 ∅ 0)) $$ Hat
  icases Hat with ⟨HaB, ⟨HaS1, HaS2⟩, ⟨HaR1, HaR1s⟩, ⟨HaR2, HaR2s⟩⟩
  imod (close_self m ρ K c (kR1 c) (if_pos rfl)) $$ [HaR1] with Hz1
  · isplitr
    · unfold ctx; isplitr; · iexact Hrec
      iexact Hlev
    · iexact HaR1
  imod (close_self m ρ K c (kR2 c) (if_pos rfl)) $$ [HaR2] with Hz2
  · isplitr
    · unfold ctx; isplitr; · iexact Hrec
      iexact Hlev
    · iexact HaR2
  iapply (body_run m ρ K c (Q := fun _ => bodyPost m ρ c) (Z := iprop(semVal (kcell c (kR1 c)) 0 ∗ semVal (kcell c (kR2 c)) 0)) (body_exit m ρ K c))
  · isplitr
    · unfold ctx; isplitr; · iexact Hrec
      iexact Hlev
    isplitr [Hz1 Hz2]
    · unfold bodyIn
      isplitl [HO]; · (unfold owing; iexists W; iexact HO)
      isplitl [Htb]; · iexact Htb
      isplitl [Ht1]; · iexact Ht1
      isplitl [Ht2]; · iexact Ht2
      isplitl [HcB HaB]
      · unfold barNeed; isplitl [HcB]; · iexact HcB
        iexact HaB
      isplitl [Hc1 HaR1s]
      · iapply (need_of c (oR1 c)); isplitl [Hc1]; · iexact Hc1
        iexact HaR1s
      isplitl [Hc2 HaR2s]
      · iapply (need_of c (oR2 c)); isplitl [Hc2]; · iexact Hc2
        iexact HaR2s
      isplitl [HaS1]; · iexact HaS1
      isplitl [HaS2]; · iexact HaS2
      isplitl [Hx]; · iexact Hx
      isplitl [Hrw]; · iexact Hrw
      isplitl [Hix]; · iexact Hix
      isplitl [Hew]; · iexact Hew
      isplitl [Hst]; · (iexists f4; iexact Hst)
      isplitl [Hs0]; · iexact Hs0
      iexact Hs1
    · isplitl [Hz1]; · iexact Hz1
      iexact Hz2

theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem share_eq (c : Dev nD) (w : Fin cfg0.W) : (dats m ρ 0 c).share w = fullShare := by unfold Dat.share; split <;> rfl

def exchCells : Finset (GSem nD τ sig) := Finset.univ.map ⟨fun x : Dev nD × KC => kcell x.1 x.2, kcell_inj⟩

/-- Who pays a transfer semaphore of device `c`. -/
def payer (c : Dev nD) : OC → Dev nD
  | .inl _ => c
  | .inr (.inl s) => s
  | .inr (.inr s) => s
/-- The duties of device `c`'s cells: a barrier unit of every device, one payment for each transfer semaphore. -/
def tokOf (x : Dev nD × (Dev nD ⊕ OC)) : GSem nD τ sig × ℕ × Dev nD := match x.2 with
  | .inl d => (kcell x.1 kB, 0, d)
  | .inr o => (kcell x.1 (.inr o), 0, payer x.1 o)
theorem tokOf_injective : Function.Injective tokOf := by
  rintro ⟨c, j⟩ ⟨c', j'⟩ h
  have h0 : (c, (match j with | .inl _ => kB | .inr o => .inr o : KC)) = (c', (match j' with | .inl _ => kB | .inr o => .inr o : KC)) := by
    apply kcell_inj
    rcases j with d | o <;> rcases j' with d' | o' <;> exact congrArg Prod.fst h
  obtain ⟨h1, h2⟩ := Prod.mk.injEq .. ▸ h0
  subst h1
  rcases j with d | o <;> rcases j' with d' | o'
  · exact congrArg (fun d => (c, Sum.inl d)) (congrArg (fun x : GSem nD τ sig × ℕ × Dev nD => x.2.2) h)
  · exact absurd h2 Sum.inl_ne_inr
  · exact absurd h2 Sum.inr_ne_inl
  · exact congrArg (fun o => (c, Sum.inr o)) (Sum.inr.inj h2)
def exchToks : Finset (GSem nD τ sig × ℕ × Dev nD) := Finset.univ.map ⟨tokOf, tokOf_injective⟩

def u₀ : UU :=
  (initOf (Pipeline.cells cfgs cellOf_inj) (Pipeline.launchToks cfgs cellOf_inj), initOf exchCells exchToks)

/-- The duty tokens of device `c`'s own cells. -/
def toks (c : Dev nD) : sProp 𝕄 :=
  iprop((bigSep Finset.univ fun d => dutyTok EX (kcell c kB) 0 d)
    ∗ (((bigSep Finset.univ fun k => dutyTok EX (kcell c (kS1 k)) 0 c) ∗ bigSep Finset.univ fun k => dutyTok EX (kcell c (kS2 k)) 0 c)
      ∗ ((bigSep Finset.univ fun s => dutyTok EX (kcell c (kR1 s)) 0 s) ∗ bigSep Finset.univ fun s => dutyTok EX (kcell c (kR2 s)) 0 s)))

/-- What the launch element deals device `c`. -/
def G (c : Dev nD) : sProp 𝕄 :=
  iprop((bigSep Finset.univ fun k : KC => roundState EX (sched m ρ) (kcell c k) 0)
    ∗ (bigSep Finset.univ fun k : KC => iprop(atPos EX (kcell c k) 0 ∅ 0 ∗ reached EX (kcell c k) 0)) ∗ toks (F := F) c)

theorem fund_exch : BI.own (EX (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun k : KC => Φ (kcell c k) := by
    unfold exchCells; rw [bigSep_map, bigSep_univ_prod]; rfl
  have hT : bigSep exchToks (fun x => (dutyTok EX x.1 x.2.1 x.2.2 : sProp 𝕄)) = bigSep Finset.univ fun c : Dev nD => toks (F := F) c := by
    unfold exchToks; rw [bigSep_map, bigSep_univ_prod]
    exact bigSep_congr fun c _ => by
      unfold toks; rw [bigSep_univ_sum, bigSep_univ_sum, bigSep_univ_sum, bigSep_univ_sum]; rfl
  iintro HX
  imod (Rounds.fund EX (sched m ρ) exchCells exchToks) $$ HX with ⟨Hst, Hr, Hat, Htok⟩
  imodintro
  ihave Hst' := (Entails.of_eq (hX fun g => roundState EX (sched m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (kcell c kB) 0 := by
  unfold unscopedSems0; rw [bigSep_eq_bigSepL_of_eq [SemLoc.reg barS] (by decide) (by decide)]; rfl

theorem sems0_eq (c : Dev nD) :
    (bigSep Finset.univ fun k : KC => semVal (kcell c k) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (sched m ρ) κ (kcell c k)))
          ∗ (bigSep Finset.univ fun k => iprop(atPos EX (kcell c k) 0 ∅ 0 ∗ reached EX (kcell c k) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KC => semVal (kcell c k) 0) ∗ bigSep Finset.univ fun k : KC => roundState EX (sched m ρ) (kcell c k) 0)
      ⊢ (|={Set.univ}=> bigSep Finset.univ fun k => iprop(∃ κ : ℕ, cellInv EX (sched m ρ) κ (kcell c k)) : sProp 𝕄) from by
        rw [← bigSep_sep']
        exact (bigSep_mono fun k _ => (Rounds.body_intro EX (sched m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- Of a family over pairs of devices, seen from the second of the pair: the peers' members. -/
theorem from_peers (f : Dev nD → Dev nD → sProp 𝕄) :
    (bigSep Finset.univ fun c => bigSep Finset.univ fun d => f c d) ⊢ bigSep Finset.univ fun d => bigSep Finset.univ fun j => f (peer d j) d := by
  rw [bigSep_univ_comm]
  refine bigSep_mono fun d _ => ?_
  refine weaken (Entails.of_eq (split_one d fun c => f c d)) ?_
  exact (show iprop(f d d ∗ bigSep Finset.univ fun j => f (peer d j) d) ⊢ bigSep Finset.univ fun j => f (peer d j) d by
    iintro ⟨-, H⟩; iexact H)

/-- The tokens go to the devices that pay. -/
theorem toks_around : (bigSep Finset.univ fun c : Dev nD => (toks (F := F) c : sProp 𝕄)) ⊢ bigSep Finset.univ fun c : Dev nD => payToks (F := F) c := by
  unfold toks payToks toks1 toks2
  simp only [bigSep_sep']
  iintro ⟨HB, ⟨HS1, HS2⟩, HR1, HR2⟩
  ihave HB := (from_peers fun c d => dutyTok EX (kcell c kB) 0 d) $$ HB
  ihave HR1 := (from_peers fun c s => dutyTok EX (kcell c (kR1 s)) 0 s) $$ HR1
  ihave HR2 := (from_peers fun c s => dutyTok EX (kcell c (kR2 s)) 0 s) $$ HR2
  isplitl [HB]; · iexact HB
  isplitl [HS1 HR1]
  · isplitl [HS1]; · iexact HS1
    iexact HR1
  · isplitl [HS2]; · iexact HS2
    iexact HR2

theorem ghost_intro (K : Dev nD × KC → ℕ) (c : Dev nD) : iprop(recs m ρ K ∗ linear (F := F) c) ⊢ G' m ρ c := by
  unfold G'
  iintro H
  iexists K
  iexact H

theorem regroup :
    (bigSep Finset.univ fun c : Dev nD => iprop((bigSep Finset.univ fun k => iprop(∃ κ : ℕ, cellInv EX (sched m ρ) κ (kcell c k)))
          ∗ (bigSep Finset.univ fun k => iprop(atPos EX (kcell c k) 0 ∅ 0 ∗ reached EX (kcell c k) 0)) ∗ toks (F := F) c) : sProp 𝕄)
      ⊢ bigSep Finset.univ (G' m ρ) := by
  rw [bigSep_sep', bigSep_sep', ← bigSep_univ_prod (fun x : Dev nD × KC => iprop(∃ κ : ℕ, cellInv EX (sched m ρ) κ (kcell x.1 x.2))),
    bigSep_congr (s := Finset.univ) (fun (c : Dev nD) _ => bigSep_sep' Finset.univ (fun k : KC => (atPos EX (kcell c k) 0 ∅ 0 : sProp 𝕄)) (fun k => reached EX (kcell c k) 0)),
    bigSep_sep', ← bigSep_univ_prod (fun x : Dev nD × KC => (reached EX (kcell x.1 x.2) 0 : sProp 𝕄))]
  iintro ⟨HI, ⟨Hat, #HR⟩, Htok⟩
  ihave HK := (BI.bigSep_exists_pi Finset.univ (fun (x : Dev nD × KC) (κ : ℕ) => (cellInv EX (sched m ρ) κ (kcell x.1 x.2) : sProp 𝕄))) $$ HI
  icases HK with ⟨%K, #HI⟩
  ihave Htk := (toks_around (F := F)) $$ Htok
  iapply (BI.bigSep_with_persistent (R := recs m ρ K) fun c _ => ghost_intro m ρ K c)
  isplitr
  · unfold recs; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the devices owe is what may be waited for -/

theorem kcell_eq_iff {a b : Dev nD} {k l : KC} : kcell a k = kcell b l ↔ a = b ∧ k = l :=
  ⟨fun h => by
    have h' := @kcell_inj (a, k) (b, l) h
    exact ⟨congrArg Prod.fst h', congrArg Prod.snd h'⟩, fun h => by rw [h.1, h.2]⟩

theorem sum_tally (f : Fin 15 → GSem nD τ sig) (n : ℕ) (g : GSem nD τ sig) :
    (∑ j, tallyAt (f j) () n : CellTallies nD τ sig Unit) g () = ∑ j, if g = f j then n else 0 := by
  rw [Finset.sum_apply, Finsupp.finset_sum_apply]
  refine Finset.sum_congr rfl fun j _ => ?_
  rw [tallyAt_apply]
  by_cases h : g = f j
  · rw [if_pos ⟨h, rfl⟩, if_pos h]
  · rw [if_neg fun h' => h h'.1, if_neg h]

/-- What device `d` owes a cell of device `c`. -/
theorem owed_at (d c : Dev nD) (k : KC) : owe d 0 0 0 (kcell c k) ()
    = (∑ j, if c = peer d j ∧ k = kB then 1 else 0) + (∑ j, if c = peer d j ∧ k = kR1 d then N else 0) + ∑ j, if c = peer d j ∧ k = kR2 d then N else 0 := by
  unfold owe oB o1 o2
  rw [tail_zero, Pi.add_apply, Finsupp.add_apply, Pi.add_apply, Finsupp.add_apply, sum_tally, sum_tally, sum_tally]
  simp only [kcell_eq_iff]

theorem count_bar (c : Dev nD) : (∑ d : Dev nD, ∑ j : Fin 15, if c = peer d j then 1 else 0) = 15 := by
  revert c; decide +kernel
theorem count_peer (c : Dev nD) (k : Fin 15) : (∑ j : Fin 15, if c = peer (peer c k) j then 1 else 0) = 1 := by
  revert c k; decide +kernel
theorem sum_peer (c : Dev nD) (k : Fin 15) (n : ℕ) : (∑ j : Fin 15, if c = peer (peer c k) j then n else 0) = n := by
  have h := congrArg (· * n) (count_peer c k)
  simp only [Finset.sum_mul, ite_mul, Nat.one_mul, Nat.zero_mul] at h
  exact h

theorem owed_bar (c : Dev nD) : ∑ d : Dev nD, owe d 0 0 0 (kcell c kB) () = 15 := by
  rw [← count_bar c]
  refine Finset.sum_congr rfl fun d _ => ?_
  rw [owed_at]
  simp only [reduceCtorEq, and_true, and_false, if_false, Finset.sum_const_zero, Nat.add_zero]
theorem owed_r1 (c : Dev nD) (k : Fin 15) : ∑ d : Dev nD, owe d 0 0 0 (kcell c (kR1 (peer c k))) () = N := by
  rw [Finset.sum_eq_single (peer c k)]
  · rw [owed_at]
    simp only [reduceCtorEq, Sum.inr.injEq, Sum.inl.injEq, and_true, and_false, if_false, Finset.sum_const_zero, Nat.add_zero, Nat.zero_add]
    exact sum_peer c k N
  · intro d _ hd
    rw [owed_at]
    simp only [reduceCtorEq, Sum.inr.injEq, Sum.inl.injEq, Ne.symm hd, and_false, if_false, Finset.sum_const_zero, Nat.add_zero]
  · exact fun h => absurd (Finset.mem_univ _) h
theorem owed_r2 (c : Dev nD) (k : Fin 15) : ∑ d : Dev nD, owe d 0 0 0 (kcell c (kR2 (peer c k))) () = N := by
  rw [Finset.sum_eq_single (peer c k)]
  · rw [owed_at]
    simp only [reduceCtorEq, Sum.inr.injEq, and_true, and_false, if_false, Finset.sum_const_zero, Nat.add_zero, Nat.zero_add]
    exact sum_peer c k N
  · intro d _ hd
    rw [owed_at]
    simp only [reduceCtorEq, Sum.inr.injEq, Ne.symm hd, and_false, if_false, Finset.sum_const_zero, Nat.add_zero]
  · exact fun h => absurd (Finset.mem_univ _) h

theorem launch_at (g : GSem nD τ sig) (hg : g.1.2 = .tc) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ creditsOf (F := F) c := by
  unfold Pipeline.launchCred
  refine weaken (bigSep_subset (Finset.subset_univ (Finset.univ.map ⟨csem, csem_inj⟩))) ?_
  rw [bigSep_map]
  refine weaken (Entails.of_eq (cells_split c _)) ?_
  unfold creditsOf
  rw [← launch_at (kcell c kB) rfl 15 (owed_bar c),
    bigSep_congr fun j _ => congrArg cred (launch_at (kcell c (kR1 (peer c j))) rfl N (owed_r1 c j)).symm,
    bigSep_congr fun j _ => congrArg cred (launch_at (kcell c (kR2 (peer c j))) rfl N (owed_r2 c j)).symm]
  iintro ⟨HB, -, ⟨-, H1⟩, -, H2⟩
  isplitl [HB]; · iexact HB
  isplitl [H1]; · iexact H1
  iexact H2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr stgPt
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scr stgPt
  rw [sems0_eq]
  iintro ⟨⟨Hu, Ho⟩, Hr⟩
  isplitl [Hu]; · iexact Hu
  isplitl [Ho]; · iexact Ho
  iexact Hr

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · exact mayWait_below c _ 0 0 0 0 (by dsimp only [lv, kind]; rw [dif_pos hq]) (fun _ => by decide) (fun _ => by decide) (fun _ => by decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every execution of the 16 devices terminates with each array at the computed
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.KernelIdeal.Result.lean ====
/-
# What a run leaves

Every device's arguments as launched, its result the same matrix on all of them, every counter at zero.
-/
module

public import proofs.«01_k».proof.Proof.KernelIdeal.Launch
public import proofs.«01_k».proof.Proof.Gen.KernelIdeal.Points

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Each window's one block is its whole array. -/
theorem read_blk0 (f : main_arg0.ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from
      funext fun a => by fin_cases a <;> decide) (fun a => by fin_cases a <;> decide) f
theorem read_blk1 (f : main_arg1.ty.Contents (Elt F)) : (win0_1.blk (0 : Fin 1)).view.read (Elt F) f = f :=
  Memref.read_access_unit_zero (Elt F) main_arg1
    (show (fun a => (win0_1.index (0 : Fin 1)) a * main_arg1.ty.shape.size a) = fun _ => 0 from
      funext fun a => by fin_cases a <;> decide) (fun a => by fin_cases a <;> decide) f
theorem read_blk2 (f : main_arg2.ty.Contents (Elt F)) : (win0_2.blk (0 : Fin 1)).view.read (Elt F) f = f :=
  Memref.read_access_unit_zero (Elt F) main_arg2
    (show (fun a => (win0_2.index (0 : Fin 1)) a * main_arg2.ty.shape.size a) = fun _ => 0 from
      funext fun a => by fin_cases a <;> decide) (fun a => by fin_cases a <;> decide) f
theorem read_blk3 (f : main_arg3.ty.Contents (Elt F)) : (win0_3.blk (0 : Fin 1)).view.read (Elt F) f = f :=
  Memref.read_access_unit_zero (Elt F) main_arg3
    (show (fun a => (win0_3.index (0 : Fin 1)) a * main_arg3.ty.shape.size a) = fun _ => 0 from
      funext fun a => by fin_cases a <;> decide) (fun a => by fin_cases a <;> decide) f
theorem read_blk4 (f : main_v1.ty.Contents (Elt F)) : (win0_4.blk (0 : Fin 1)).view.read (Elt F) f = f :=
  Memref.read_access_unit_zero (Elt F) main_v1
    (show (fun a => (win0_4.index (0 : Fin 1)) a * main_v1.ty.shape.size a) = fun _ => 0 from
      funext fun a => by fin_cases a <;> decide) (fun a => by fin_cases a <;> decide) f

theorem xF_eq (c : Dev nD) : xF m ρ c = m ((c : Thread nD τ).loc main_arg0) := read_blk0 _
theorem rwF_eq (c : Dev nD) : rwF m ρ c = m ((c : Thread nD τ).loc main_arg1) := read_blk1 _
theorem ixF_eq (c : Dev nD) : ixF m ρ c = m ((c : Thread nD τ).loc main_arg2) := read_blk2 _
theorem ewF_eq (c : Dev nD) : ewF m ρ c = m ((c : Thread nD τ).loc main_arg3) := read_blk3 _

/-- The result array ends holding the exchanged matrix. -/
theorem final_out (c : Dev nD) : finalA m ρ c (4 : Fin 5) = outF m ρ := by
  have hw : (win0_4.blk (0 : Fin 1)).view.read (Elt F) (finalA m ρ c (4 : Fin 5)) = outF m ρ := by
    unfold finalA
    rw [show cfg0.N = t₀.val + 1 from rfl, (dats m ρ 0 c).arrAt_succ (4 : Fin 5) t₀, if_pos (flush0_4 t₀)]
    exact (View.read_write_univ _ _).trans (funext fun _ => rfl)
  exact (read_blk4 _).symm.trans hw

/-- From any memory with zero counters every execution of the 16 devices terminates; each device's result array then
    holds `outF`, its arguments are as launched, and every counter is at zero. -/
theorem run_result :
    θ_run defs (onTc (τ := τ) (main (F := F))) ⟨m, fun _ => 0, ρ⟩ (fun r => (∀ c : Dev nD,
      r.2.mem ((c.tc : Thread nD τ).loc main_v1) = outF m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (4 : Fin 5)).trans (final_out m ρ c),
      (h.1 c (0 : Fin 5)).trans ((dats m ρ 0 c).arrAt_in (0 : Fin 5) rfl _),
      (h.1 c (1 : Fin 5)).trans ((dats m ρ 0 c).arrAt_in (1 : Fin 5) rfl _),
      (h.1 c (2 : Fin 5)).trans ((dats m ρ 0 c).arrAt_in (2 : Fin 5) rfl _),
      (h.1 c (3 : Fin 5)).trans ((dats m ρ 0 c).arrAt_in (3 : Fin 5) rfl _)⟩, h.2⟩)
    (run_main m ρ)

end Cert.KernelIdealProof

end
-- ==== Proof.Value.Math.lean ====
/-
# The mathematics of one routed layer

The layer over the extended reals, on plain functions of the row and column numbers: the router's
probabilities, the weights of the two chosen experts, and the law that moves a weight out of an
expert's contraction.
-/
module

public import Idealize.ShloMosaic.Lib.Pointwise

@[expose] public section

set_option maxRecDepth 16384

noncomputable section

namespace Cert.Val

open Idealize.ShloMosaic

/-! ## The router -/

/-- The router's score of expert `e` for a row `x`. -/
def score (x : Fin 256 → EReal) (R : Fin 256 → Fin 32 → EReal) (e : Fin 32) : EReal := ∑ k, x k * R k e

/-- The largest score of the row. -/
def top (x : Fin 256 → EReal) (R : Fin 256 → Fin 32 → EReal) : EReal :=
  Finset.fold max (Ideal.ofBits FTy.f32 0xFF800000#32) (fun e => score x R e) Finset.univ

/-- The router's probability of expert `e`. -/
def prob (x : Fin 256 → EReal) (R : Fin 256 → Fin 32 → EReal) (e : Fin 32) : EReal :=
  Ideal.div (Ideal.exp (score x R e - top x R)) (∑ e', Ideal.exp (score x R e' - top x R))

theorem exists_sum {ι : Type} (s : Finset ι) (f : ι → EReal) (h : ∀ k, ∃ a : ℝ, f k = a) :
    ∃ a : ℝ, ∑ k ∈ s, f k = a := by
  classical
  induction s using Finset.induction_on with
  | empty => exact ⟨0, by simp⟩
  | insert k s hk ih =>
    obtain ⟨a, ha⟩ := ih
    obtain ⟨b, hb⟩ := h k
    exact ⟨b + a, by rw [Finset.sum_insert hk, ha, hb, EReal.coe_add]⟩

theorem exists_sum_pos {n : ℕ} (f : Fin (n + 1) → EReal) (h : ∀ k, ∃ a : ℝ, 0 < a ∧ f k = a) :
    ∃ a : ℝ, 0 < a ∧ ∑ k, f k = a := by
  choose g hg using h
  refine ⟨∑ k, g k, Finset.sum_pos (fun k _ => (hg k).1) ⟨0, Finset.mem_univ _⟩, ?_⟩
  rw [Finset.sum_congr rfl fun k _ => (hg k).2]
  exact (map_sum (⟨⟨fun r : ℝ => (r : EReal), EReal.coe_zero⟩, EReal.coe_add⟩ : ℝ →+ EReal) g Finset.univ).symm

/-- On a finite row and finite router weights every score is a real number. -/
theorem score_real (x : Fin 256 → EReal) (R : Fin 256 → Fin 32 → EReal) (hx : ∀ k, ∃ a : ℝ, x k = a)
    (hR : ∀ k e, ∃ a : ℝ, R k e = a) (e : Fin 32) : ∃ a : ℝ, score x R e = a := by
  refine exists_sum _ _ fun k => ?_
  obtain ⟨a, ha⟩ := hx k
  obtain ⟨b, hb⟩ := hR k e
  exact ⟨a * b, by rw [ha, hb, EReal.coe_mul]⟩

/-- On a finite row and finite router weights every probability is a positive real number. -/
theorem prob_pos (x : Fin 256 → EReal) (R : Fin 256 → Fin 32 → EReal) (hx : ∀ k, ∃ a : ℝ, x k = a)
    (hR : ∀ k e, ∃ a : ℝ, R k e = a) (e : Fin 32) : ∃ a : ℝ, 0 < a ∧ prob x R e = a := by
  have hs := score_real x R hx hR
  obtain ⟨t, ht⟩ : ∃ t : ℝ, top x R = t := by
    have h1 : top x R < ⊤ := by
      refine (Finset.fold_max_lt _).2 ⟨?_, fun e _ => ?_⟩
      · have h : Ideal.ofBits FTy.f32 0xFF800000#32 = ⊥ := by simp [Ideal.ofBits, Ideal.ieee]
        rw [h]; exact bot_lt_top
      · obtain ⟨a, ha⟩ := hs e
        rw [ha]; exact EReal.coe_lt_top a
    have h2 : ⊥ < top x R := by
      refine (Finset.lt_fold_max _).2 (.inr ⟨0, Finset.mem_univ _, ?_⟩)
      obtain ⟨a, ha⟩ := hs 0
      rw [ha]; exact EReal.bot_lt_coe a
    exact ⟨(top x R).toReal, (EReal.coe_toReal h1.ne h2.ne').symm⟩
  have he : ∀ e, ∃ a : ℝ, 0 < a ∧ Ideal.exp (score x R e - top x R) = a := by
    intro e
    obtain ⟨a, ha⟩ := hs e
    exact ⟨Real.exp (a - t), Real.exp_pos _, by rw [ha, ht, ← EReal.coe_sub]; rfl⟩
  obtain ⟨d, hd, hd'⟩ := exists_sum_pos (n := 31) _ he
  obtain ⟨a, ha, ha'⟩ := he e
  refine ⟨a * (1 / d), mul_pos ha (by positivity), ?_⟩
  unfold prob
  rw [ha', hd', Ideal.div_coe hd.ne', EReal.coe_mul]

/-- The quotient of a positive number by the sum of it and another is a nonnegative real number. -/
theorem weight_nonneg {p q : EReal} (hp : ∃ a : ℝ, 0 < a ∧ p = a) (hq : ∃ a : ℝ, 0 < a ∧ q = a) {n : EReal}
    (hn : ∃ a : ℝ, 0 < a ∧ n = a) : ∃ a : ℝ, 0 ≤ a ∧ Ideal.div n (p + q) = a := by
  obtain ⟨a, ha, rfl⟩ := hp
  obtain ⟨b, hb, rfl⟩ := hq
  obtain ⟨d, hd, rfl⟩ := hn
  refine ⟨d * (1 / (a + b)), by positivity, ?_⟩
  rw [← EReal.coe_add, Ideal.div_coe (by positivity), EReal.coe_mul]

/-! ## A weight leaves a contraction -/

/-- A nonnegative real factor leaves a sum over the extended reals. -/
theorem sum_mul_left {ι : Type} (s : Finset ι) (a : ℝ) (ha : 0 ≤ a) (f : ι → EReal) :
    ∑ k ∈ s, (a : EReal) * f k = (a : EReal) * ∑ k ∈ s, f k := by
  classical
  induction s using Finset.induction_on with
  | empty => simp
  | insert k s hk ih => rw [Finset.sum_insert hk, Finset.sum_insert hk, ih, EReal.left_distrib_of_nonneg_of_ne_top (by exact_mod_cast ha) (EReal.coe_ne_top a)]

/-- A row scaled by the weights that fall on one expert, contracted: each weight times the row's contraction. -/
theorem expert_term (x W : Fin 256 → EReal) (p q : Prop) [Decidable p] [Decidable q] (a b : ℝ) (ha : 0 ≤ a) (hb : 0 ≤ b) :
    ∑ k, (x k * ((if p then (a : EReal) else 0) + (if q then (b : EReal) else 0))) * W k =
      (if p then (a : EReal) * ∑ k, x k * W k else 0) + (if q then (b : EReal) * ∑ k, x k * W k else 0) := by
  have hsum : ∀ d : ℝ, 0 ≤ d → ∑ k, x k * (d : EReal) * W k = (d : EReal) * ∑ k, x k * W k := by
    intro d hd
    rw [← sum_mul_left _ d hd]
    exact Finset.sum_congr rfl fun k _ => by rw [mul_comm (x k), mul_assoc]
  by_cases hp : p <;> by_cases hq : q <;> simp only [hp, hq, if_true, if_false, add_zero, zero_add, mul_zero, zero_mul, Finset.sum_const_zero]
  · rw [← EReal.coe_add, hsum _ (add_nonneg ha hb), EReal.coe_add, EReal.right_distrib_of_nonneg (by exact_mod_cast ha) (by exact_mod_cast hb)]
  · exact hsum a ha
  · exact hsum b hb

/-! ## Sums over the devices -/

/-- A sum over the sixteen devices of two terms each is the sum over the thirty-two experts. -/
theorem sum_pairs (f : Fin 32 → EReal) :
    ∑ c : Fin 16, (f ⟨2 * c.val, by omega⟩ + f ⟨2 * c.val + 1, by omega⟩) = ∑ e, f e := by
  rw [← (finProdFinEquiv (m := 16) (n := 2)).sum_comp f, Fintype.sum_prod_type]
  refine Finset.sum_congr rfl fun c _ => ?_
  rw [Fin.sum_univ_two]
  congr 1 <;> congr 1 <;> refine Fin.ext ?_ <;> simp [finProdFinEquiv, add_comm]

/-- The rows of the two chosen experts are what the sum over all experts keeps. -/
theorem sum_chosen (e₀ e₁ : Fin 32) (f g : Fin 32 → EReal) :
    ∑ e, ((if e₀ = e then f e else 0) + (if e₁ = e then g e else 0)) = f e₀ + g e₁ := by
  rw [Finset.sum_add_distrib, Finset.sum_ite_eq, Finset.sum_ite_eq]
  simp only [Finset.mem_univ, if_true]

end Cert.Val
-- ==== Proof.Value.Reference.lean ====
/-
# The reference's value

The reference read at a row and a column: the two chosen experts' contractions of the row, each by its weight.
-/
module

public import proofs.«01_k».proof.Proof.Gen.ReferenceIdeal.Run
public import proofs.«01_k».proof.Proof.Value.Math
public import Idealize.ShloMosaic.Lib.Tactic

@[expose] public section

set_option maxRecDepth 16384

noncomputable section

namespace Cert.Val

open Cert.ReferenceIdeal Cert.ReferenceIdeal.Gen
open Idealize.ShloMosaic

/-- The router's scores. -/
def scoresR (x : Vec Ideal S512x256 .bf16) (R : Vec Ideal S256x32 .bf16) : FVec Ideal S512x32 .f32 :=
  Host.dotGeneral dot_S512x256_S256x32_S512x32_1_0_0_1_n_n none (extf .f32 x bitsLt_bf16_f32) (extf .f32 R bitsLt_bf16_f32)

/-- The exponentials of the scores less their row's largest. -/
def expsR (x : Vec Ideal S512x256 .bf16) (R : Vec Ideal S256x32 .bf16) : FVec Ideal S512x32 .f32 :=
  Host.exp (subf (scoresR x R) (broadcastInDim S512x32 ![0, 1] bcast_S512x1_S512x32_0_1 (broadcastInDim S512x1 ![0] bcast_S512_S512x1_0
    (Host.reduce FloatOps.maximumf (scoresR x R) (constant S_ .f32 0xFF800000#32) reducesTo_S512x32_S512_d1 h_S_))))

/-- The router's probabilities. -/
def probsR (x : Vec Ideal S512x256 .bf16) (R : Vec Ideal S256x32 .bf16) : FVec Ideal S512x32 .f32 :=
  Host.divf (expsR x R) (broadcastInDim S512x32 ![0, 1] bcast_S512x1_S512x32_0_1 (broadcastInDim S512x1 ![0] bcast_S512_S512x1_0
    (Host.reduceAdd (expsR x R) (constant S_ .f32 0x00000000#32) reducesTo_S512x32_S512_d1 h_S_)))

/-- The probabilities of the chosen experts. -/
def gatesR (x : Vec Ideal S512x256 .bf16) (R : Vec Ideal S256x32 .bf16) (ix : Vec Ideal S512x2 .i32) : FVec Ideal S512x2 .f32 :=
  Host.gather gather_S512x32_S512x2x1_S512x2_n_1_0_0_1_2_11 (probsR x R)
    (shapeCast S512x2x1 (select (cmpi .slt ix (broadcastInDim S512x2 ![] bcast_S_S512x2 (constantI S_ 32 0#32)))
      (addi ix (broadcastInDim S512x2 ![] bcast_S_S512x2 (constantI S_ 32 32#32))) ix) shapeCasts_S512x2_S512x2x1)

/-- Each row contracted with the matrix of the expert the row names. -/
def expertR (x : Vec Ideal S512x256 .bf16) (W : Vec Ideal S32x256x512 .bf16) (a : IVec S512x1 32) : FVec Ideal S512x512 .f32 :=
  Host.dotGeneral dot_S512x256_S512x256x512_S512x512_1_1_n_2_0_0 none (extf .f32 x bitsLt_bf16_f32)
    (Host.gather gather_S32x256x512_S512x1_S512x256x512_12_0_n_n_0_1_1256512 (extf .f32 W bitsLt_bf16_f32)
      (broadcastInDim S512x1 ![0] bcast_S512_S512x1_0 (shapeCast S512 a shapeCasts_S512x1_S512)))

/-- The reference's result. -/
def resR (x : Vec Ideal S512x256 .bf16) (R : Vec Ideal S256x32 .bf16) (ix : Vec Ideal S512x2 .i32) (W : Vec Ideal S32x256x512 .bf16) :
    FVec Ideal S512x512 .bf16 :=
  truncf .bf16 (addf
    (mulf (broadcastInDim S512x512 ![0, 1] bcast_S512x1_S512x512_0_1
        (Host.divf (extractStridedSlice S512x1 ![0, 0] (gatesR x R ix) slices_S512x2_S512x1_0_0)
          (addf (extractStridedSlice S512x1 ![0, 0] (gatesR x R ix) slices_S512x2_S512x1_0_0)
            (extractStridedSlice S512x1 ![0, 1] (gatesR x R ix) slices_S512x2_S512x1_0_1))))
      (expertR x W (extractStridedSlice S512x1 ![0, 0] ix slices_S512x2_S512x1_0_0)))
    (mulf (broadcastInDim S512x512 ![0, 1] bcast_S512x1_S512x512_0_1
        (Host.divf (extractStridedSlice S512x1 ![0, 1] (gatesR x R ix) slices_S512x2_S512x1_0_1)
          (addf (extractStridedSlice S512x1 ![0, 0] (gatesR x R ix) slices_S512x2_S512x1_0_0)
            (extractStridedSlice S512x1 ![0, 1] (gatesR x R ix) slices_S512x2_S512x1_0_1))))
      (expertR x W (extractStridedSlice S512x1 ![0, 1] ix slices_S512x2_S512x1_0_1)))) bitsLt_bf16_f32

/-- The reference's run leaves this result. -/
theorem res_eq (m : (ℓ : Loc nD τ sig) → Buf (Elt Ideal) ℓ) (c : Dev nD) :
    Value.res_main_v32 m c = resR (m ((c.tc : Thread nD τ).loc main_arg0)) (m ((c.tc : Thread nD τ).loc main_arg1))
      (m ((c.tc : Thread nD τ).loc main_arg2)) (m ((c.tc : Thread nD τ).loc main_arg3)) := rfl

theorem scoresR_apply (x : Vec Ideal S512x256 .bf16) (R : Vec Ideal S256x32 .bf16) (r : Fin 512) (e : Fin 32) :
    scoresR x R (ix2 r e) = score (fun k => x (ix2 r k)) (fun k e => R (ix2 k e)) e := by
  pointwise [scoresR]
  rfl

theorem probsR_apply (x : Vec Ideal S512x256 .bf16) (R : Vec Ideal S256x32 .bf16) (r : Fin 512) (e : Fin 32) :
    probsR x R (ix2 r e) = prob (fun k => x (ix2 r k)) (fun k e => R (ix2 k e)) e := by
  pointwise [probsR, expsR, scoresR]
  rfl

/-- A word that holds a small natural, read signed and clamped to a larger bound, is that natural. -/
theorem clamped {v : BitVec 32} (h : v.toNat < 32) : min v.toInt.toNat (32 - 1) = v.toNat := by
  have : v.toInt = (v.toNat : Int) := by
    rw [BitVec.toInt_eq_toNat_of_lt]
    omega
  rw [this]
  omega

/-- A word that holds a small natural is not negative. -/
theorem not_neg {v : BitVec 32} (h : v.toNat < 32) : IntOp.cmpi .slt v 0#32 = 0#1 := by
  have : v.toInt = (v.toNat : Int) := by
    rw [BitVec.toInt_eq_toNat_of_lt]
    omega
  have h' : ¬ v.toInt < 0 := by omega
  show BitVec.ofBool (decide (v.toInt < (0#32 : BitVec 32).toInt)) = 0#1
  rw [show (0#32 : BitVec 32).toInt = 0 from rfl, decide_eq_false h']
  rfl

/-- Picking one column of each row: where the index names a column, that column's entry. -/
theorem pick_column (p : FVec Ideal S512x32 .f32) (ix : IVec S512x2x1 32) (r : Fin 512) (t : Fin 2)
    (h : (ix (ix3 r t 0)).toNat < 32) :
    Host.gather gather_S512x32_S512x2x1_S512x2_n_1_0_0_1_2_11 p ix (ix2 r t) = p (ix2 r ⟨(ix (ix3 r t 0)).toNat, h⟩) := by
  unfold Host.gather
  refine congrArg p (funext fun a => Fin.ext ?_)
  show gather_S512x32_S512x2x1_S512x2_n_1_0_0_1_2_11.start (ix2 r t) ix a
    + gather_S512x32_S512x2x1_S512x2_n_1_0_0_1_2_11.batchCoord (ix2 r t) a
    + gather_S512x32_S512x2x1_S512x2_n_1_0_0_1_2_11.offCoord (ix2 r t) a = _
  match a with
  | 0 => exact (show 0 + r.val + 0 = r.val by omega)
  | 1 =>
    have hs : gather_S512x32_S512x2x1_S512x2_n_1_0_0_1_2_11.start (ix2 r t) ix 1 = min (ix (ix3 r t 0)).toInt.toNat (32 - 1) := by
      unfold GatherDims.start
      rw [dif_pos (show (1 : Fin 2) ∈ gather_S512x32_S512x2x1_S512x2_n_1_0_0_1_2_11.startIndexMap from List.mem_singleton.mpr rfl)]
      refine congrArg (fun i => min (ix i).toInt.toNat (32 - 1)) ?_
      funext b
      match b with
      | 0 => rfl
      | 1 => rfl
      | 2 => rfl
    rw [hs, clamped h]
    exact (show (ix (ix3 r t 0)).toNat + 0 + 0 = (ix (ix3 r t 0)).toNat by omega)

/-- Picking one matrix for each row: where the index names a matrix, that matrix's entry. -/
theorem pick_matrix (w : FVec Ideal S32x256x512 .f32) (ix : IVec S512x1 32) (r : Fin 512) (k : Fin 256) (j : Fin 512)
    (h : (ix (ix2 r 0)).toNat < 32) :
    Host.gather gather_S32x256x512_S512x1_S512x256x512_12_0_n_n_0_1_1256512 w ix (ix3 r k j) = w (ix3 ⟨(ix (ix2 r 0)).toNat, h⟩ k j) := by
  unfold Host.gather
  refine congrArg w (funext fun a => Fin.ext ?_)
  show gather_S32x256x512_S512x1_S512x256x512_12_0_n_n_0_1_1256512.start (ix3 r k j) ix a
    + gather_S32x256x512_S512x1_S512x256x512_12_0_n_n_0_1_1256512.batchCoord (ix3 r k j) a
    + gather_S32x256x512_S512x1_S512x256x512_12_0_n_n_0_1_1256512.offCoord (ix3 r k j) a = _
  match a with
  | 0 =>
    have hs : gather_S32x256x512_S512x1_S512x256x512_12_0_n_n_0_1_1256512.start (ix3 r k j) ix 0 = min (ix (ix2 r 0)).toInt.toNat (32 - 1) := by
      unfold GatherDims.start
      rw [dif_pos (show (0 : Fin 3) ∈ gather_S32x256x512_S512x1_S512x256x512_12_0_n_n_0_1_1256512.startIndexMap from List.mem_singleton.mpr rfl)]
      refine congrArg (fun i => min (ix i).toInt.toNat (32 - 1)) ?_
      funext b
      match b with
      | 0 => rfl
      | 1 => rfl
    rw [hs, clamped h]
    exact (show (ix (ix2 r 0)).toNat + 0 + 0 = (ix (ix2 r 0)).toNat by omega)
  | 1 => exact (show 0 + 0 + k.val = k.val by omega)
  | 2 => exact (show 0 + 0 + j.val = j.val by omega)

/-- The gathered probability, where the index is an expert's number. -/
theorem gatesR_apply (x : Vec Ideal S512x256 .bf16) (R : Vec Ideal S256x32 .bf16) (ix : Vec Ideal S512x2 .i32) (r : Fin 512) (t : Fin 2)
    (h : (ix (ix2 r t)).toNat < 32) :
    gatesR x R ix (ix2 r t) = prob (fun k => x (ix2 r k)) (fun k e => R (ix2 k e)) ⟨(ix (ix2 r t)).toNat, h⟩ := by
  have hi : shapeCast S512x2x1 (select (cmpi .slt ix (broadcastInDim S512x2 ![] bcast_S_S512x2 (constantI S_ 32 0#32)))
      (addi ix (broadcastInDim S512x2 ![] bcast_S_S512x2 (constantI S_ 32 32#32))) ix) shapeCasts_S512x2_S512x2x1 (ix3 r t 0)
        = ix (ix2 r t) := by
    pointwise
    rw [not_neg h]
    rfl
  unfold gatesR
  rw [pick_column _ _ _ _ (by rw [hi]; exact h), probsR_apply]
  exact congrArg _ (Fin.ext (congrArg BitVec.toNat hi))

/-- The contraction with the named expert's matrix, where the index is an expert's number. -/
theorem expertR_apply (x : Vec Ideal S512x256 .bf16) (W : Vec Ideal S32x256x512 .bf16) (a : IVec S512x1 32) (r j : Fin 512)
    (h : (a (ix2 r 0)).toNat < 32) :
    expertR x W a (ix2 r j) = ∑ k, x (ix2 r k) * W (ix3 ⟨(a (ix2 r 0)).toNat, h⟩ k j) := by
  pointwise [expertR]
  refine Finset.sum_congr rfl fun k _ => ?_
  have hi : broadcastInDim S512x1 ![0] bcast_S512_S512x1_0 (shapeCast S512 a shapeCasts_S512x1_S512) (ix2 r 0) = a (ix2 r 0) := by
    pointwise
  rw [pick_matrix _ _ _ _ _ (by rw [hi]; exact h)]
  refine congrArg (x (ix2 r k) * ·) ?_
  show W _ = W _
  exact congrArg (fun e => W (ix3 e k j)) (Fin.ext (congrArg BitVec.toNat hi))

/-- The weight of a chosen expert: its probability over the sum of the two chosen experts' probabilities. -/
def weight (x : Fin 256 → EReal) (R : Fin 256 → Fin 32 → EReal) (e e₀ e₁ : Fin 32) : EReal :=
  Ideal.div (prob x R e) (prob x R e₀ + prob x R e₁)

/-- The reference read at an index. -/
theorem resR_apply (x : Vec Ideal S512x256 .bf16) (R : Vec Ideal S256x32 .bf16) (ix : Vec Ideal S512x2 .i32) (W : Vec Ideal S32x256x512 .bf16)
    (r j : Fin 512) (h0 : (ix (ix2 r 0)).toNat < 32) (h1 : (ix (ix2 r 1)).toNat < 32) :
    resR x R ix W (ix2 r j) =
      weight (fun k => x (ix2 r k)) (fun k e => R (ix2 k e)) ⟨_, h0⟩ ⟨_, h0⟩ ⟨_, h1⟩ * (∑ k, x (ix2 r k) * W (ix3 ⟨_, h0⟩ k j))
      + weight (fun k => x (ix2 r k)) (fun k e => R (ix2 k e)) ⟨_, h1⟩ ⟨_, h0⟩ ⟨_, h1⟩ * (∑ k, x (ix2 r k) * W (ix3 ⟨_, h1⟩ k j)) := by
  have e0 : extractStridedSlice S512x1 ![0, 0] ix slices_S512x2_S512x1_0_0 (ix2 r 0) = ix (ix2 r 0) := by pointwise
  have e1 : extractStridedSlice S512x1 ![0, 1] ix slices_S512x2_S512x1_0_1 (ix2 r 0) = ix (ix2 r 1) := by pointwise
  pointwise [resR]
  rw [gatesR_apply x R ix r 0 h0, gatesR_apply x R ix r 1 h1, expertR_apply x W _ r j (by rw [e0]; exact h0),
    expertR_apply x W _ r j (by rw [e1]; exact h1)]
  simp only [e0, e1]
  rfl

end Cert.Val
-- ==== Proof.Value.Kernel.lean ====
/-
# The kernel's value

The kernel's result read at a row and a column: the sum over the devices of each device's two experts
on the row, which is the sum over all experts.
-/
module

public import proofs.«01_k».proof.Proof.KernelIdeal.Base
public import proofs.«01_k».proof.Proof.Value.Reference

@[expose] public section

set_option maxRecDepth 16384

noncomputable section

namespace Cert.Val
open Cert.KernelIdeal Cert.KernelIdeal.Gen Cert.KernelIdealProof
open Idealize.ShloMosaic

theorem pay2_apply (x : Vec Ideal S512x256 .bf16) (w : Vec Ideal S256x32 .bf16) (r : Fin 512) (e : Fin 32) :
    k0_pay2 x w (ix2 r e) = prob (fun k => x (ix2 r k)) (fun k e => w (ix2 k e)) e := by
  pointwise [k0_pay2, k0_pay1]
  rfl

theorem pick (p : Fin 32 → EReal) (v : BitVec 32) (h : v.toNat < 32) :
    ∑ x : Fin 32, Scalar.select (IntOp.cmpi CmpIPredicate.eq (BitVec.ofNat 32 ↑x) v) (p x) 0 = p ⟨v.toNat, h⟩ := by
  rw [Finset.sum_eq_single ⟨v.toNat, h⟩]
  · simp [IntOp.cmpi, Scalar.select]
  · intro b _ hb
    have : ¬ (BitVec.ofNat 32 b.val = v) := by
      rintro rfl
      exact hb (Fin.ext (by simp [Nat.mod_eq_of_lt (show b.val < 4294967296 by omega)]))
    rw [show IntOp.cmpi CmpIPredicate.eq (BitVec.ofNat 32 b.val) v = BitVec.ofBool (decide (BitVec.ofNat 32 b.val = v)) from rfl,
      decide_eq_false this]
    rfl
  · intro h'; exact absurd (Finset.mem_univ _) h'

theorem pay5_apply (p : Vec Ideal S512x32 .f32) (a : Vec Ideal S512x1 .i32) (r : Fin 512) (h : (a (ix2 r 0)).toNat < 32) :
    k0_pay5 p a (ix2 r 0) = p (ix2 r ⟨(a (ix2 r 0)).toNat, h⟩) := by
  pointwise [k0_pay5, k0_pay3]
  exact pick (fun e => p (ix2 r e)) _ h

theorem pay6_apply (p : Vec Ideal S512x32 .f32) (a : Vec Ideal S512x1 .i32) (r : Fin 512) (h : (a (ix2 r 0)).toNat < 32) :
    k0_pay6 p a (ix2 r 0) = p (ix2 r ⟨(a (ix2 r 0)).toNat, h⟩) := by
  pointwise [k0_pay6, k0_pay4]
  exact pick (fun e => p (ix2 r e)) _ h

/-- A row's weight on expert `n`: the weight of whichever chosen expert it is, added where it is both. -/
theorem sel_apply (v : BitVec 32) (h : v.toNat < 32) (n : ℕ) (hn : n < 32) (x : EReal) :
    Scalar.select (IntOp.cmpi CmpIPredicate.eq v (BitVec.ofNat 32 n)) x 0 = if (⟨v.toNat, h⟩ : Fin 32) = ⟨n, hn⟩ then x else 0 := by
  show Scalar.select (BitVec.ofBool (decide (v = BitVec.ofNat 32 n))) x 0 = _
  by_cases hv : v = BitVec.ofNat 32 n
  · have : v.toNat = n := by rw [hv, BitVec.toNat_ofNat]; omega
    rw [decide_eq_true hv, if_pos (Fin.ext this)]
    rfl
  · have : ¬ (⟨v.toNat, h⟩ : Fin 32) = ⟨n, hn⟩ := fun e => hv (BitVec.eq_of_toNat_eq (by
      rw [BitVec.toNat_ofNat, show v.toNat = n from congrArg Fin.val e]; omega))
    rw [decide_eq_false hv, if_neg this]
    rfl

/-- The numbers of a device's two experts, as the words the kernel computes. -/
theorem word_two (c : Dev nD) : Scalar.addi (Scalar.muli (wd c) 2#32) 0#32 = BitVec.ofNat 32 (2 * c.val) ∧
    Scalar.addi (Scalar.muli (wd c) 2#32) 1#32 = BitVec.ofNat 32 (2 * c.val + 1) := by
  revert c; decide

/-- One device's partial result, read at an index, as a function of what it loaded. -/
theorem own_val (x : Vec Ideal S512x256 .bf16) (p : Vec Ideal S512x32 .f32) (a b : Vec Ideal S512x1 .i32)
    (w0 w1 : Vec Ideal S1x256x512 .bf16) (v : BitVec 32) (r j : Fin 512) (n : ℕ) (hn : n + 1 < 32)
    (hv : Scalar.addi (Scalar.muli v 2#32) 0#32 = BitVec.ofNat 32 n) (hv' : Scalar.addi (Scalar.muli v 2#32) 1#32 = BitVec.ofNat 32 (n + 1))
    (ha : (a (ix2 r 0)).toNat < 32) (hb : (b (ix2 r 0)).toNat < 32) (wa wb : EReal)
    (hwa : Ideal.div (p (ix2 r ⟨_, ha⟩)) (p (ix2 r ⟨_, ha⟩) + p (ix2 r ⟨_, hb⟩)) = wa)
    (hwb : Ideal.div (p (ix2 r ⟨_, hb⟩)) (p (ix2 r ⟨_, ha⟩) + p (ix2 r ⟨_, hb⟩)) = wb) :
    k0_pay13 (k0_pay1 x) (k0_pay4 b) (k0_pay8 p a b) (k0_pay9 p a b) (k0_pay10 v (k0_pay1 x) p a b w0)
      (Scalar.addi (Scalar.muli v 2#32) 1#32) (k0_pay11 v a) (k0_pay12 (F := Ideal)) w1 (ix2 r j) =
      (∑ k, x (ix2 r k) * ((if (⟨_, ha⟩ : Fin 32) = ⟨n, by omega⟩ then wa else 0) + (if (⟨_, hb⟩ : Fin 32) = ⟨n, by omega⟩ then wb else 0)) * w0 (ix3 0 k j))
      + ∑ k, x (ix2 r k) * ((if (⟨_, ha⟩ : Fin 32) = ⟨n + 1, hn⟩ then wa else 0) + (if (⟨_, hb⟩ : Fin 32) = ⟨n + 1, hn⟩ then wb else 0)) * w1 (ix3 0 k j) := by
  pointwise [k0_pay13, k0_pay1, k0_pay4, k0_pay8, k0_pay9, k0_pay10, k0_pay11, k0_pay12, k0_pay7, k0_pay3]
  rw [hv, hv', pay5_apply p a r ha, pay6_apply p b r hb, hwa, hwb, sel_apply _ ha n, sel_apply _ hb n, sel_apply _ ha (n + 1) hn,
    sel_apply _ hb (n + 1) hn]

theorem red_val (o : Vec Ideal S32x512 .bf16) (s0 s1 s2 s3 s4 s5 s6 s7 s8 s9 s10 s11 s12 s13 s14 : Vec Ideal S1x32x512 .bf16) (r : Fin 32) (j : Fin 512) :
    k0_pay20 (k0_pay19 (k0_pay18 (k0_pay17 (k0_pay16 (k0_pay15 (k0_pay14 o s0 s1) s2 s3) s4 s5) s6 s7 s8) s9 s10) s11 s12) s13 s14 (ix2 r j) =
      o (ix2 r j) + s0 (ix3 0 r j) + s1 (ix3 0 r j) + s2 (ix3 0 r j) + s3 (ix3 0 r j) + s4 (ix3 0 r j) + s5 (ix3 0 r j) + s6 (ix3 0 r j)
        + s7 (ix3 0 r j) + s8 (ix3 0 r j) + s9 (ix3 0 r j) + s10 (ix3 0 r j) + s11 (ix3 0 r j) + s12 (ix3 0 r j) + s13 (ix3 0 r j) + s14 (ix3 0 r j) := by
  pointwise [k0_pay14, k0_pay15, k0_pay16, k0_pay17, k0_pay18, k0_pay19, k0_pay20]

theorem ix0_apply (m : (ℓ : Loc nD τ sig) → Buf (Elt Ideal) ℓ) (ρ : Dev nD → PrngReg) (c : Dev nD) (r : Fin 512) :
    KernelIdealProof.ix0 m ρ c (ix2 r 0) = ixF m ρ c (ix2 r 0) := by
  unfold KernelIdealProof.ix0
  refine congrArg (ixF m ρ c) (?_ : _ = ix2 r 0)
  funext a
  refine Fin.ext ?_
  match a with
  | 0 => show 0 + 1 * r.val = r.val; omega
  | 1 => rfl
theorem ix1_apply (m : (ℓ : Loc nD τ sig) → Buf (Elt Ideal) ℓ) (ρ : Dev nD → PrngReg) (c : Dev nD) (r : Fin 512) :
    KernelIdealProof.ix1 m ρ c (ix2 r 0) = ixF m ρ c (ix2 r 1) := by
  unfold KernelIdealProof.ix1
  refine congrArg (ixF m ρ c) (?_ : _ = ix2 r 1)
  funext a
  refine Fin.ext ?_
  match a with
  | 0 => show 0 + 1 * r.val = r.val; omega
  | 1 => rfl
theorem ew0_apply (m : (ℓ : Loc nD τ sig) → Buf (Elt Ideal) ℓ) (ρ : Dev nD → PrngReg) (c : Dev nD) (k : Fin 256) (j : Fin 512) :
    ew0 m ρ c (ix3 0 k j) = ewF m ρ c (ix3 0 k j) := by
  unfold ew0
  refine congrArg (ewF m ρ c) (?_ : _ = ix3 0 k j)
  funext a
  refine Fin.ext ?_
  match a with
  | 0 => rfl
  | 1 => show 0 + 1 * k.val = k.val; omega
  | 2 => show 0 + 1 * j.val = j.val; omega
theorem ew1_apply (m : (ℓ : Loc nD τ sig) → Buf (Elt Ideal) ℓ) (ρ : Dev nD → PrngReg) (c : Dev nD) (k : Fin 256) (j : Fin 512) :
    ew1 m ρ c (ix3 0 k j) = ewF m ρ c (ix3 1 k j) := by
  unfold ew1
  refine congrArg (ewF m ρ c) (?_ : _ = ix3 1 k j)
  funext a
  refine Fin.ext ?_
  match a with
  | 0 => rfl
  | 1 => show 0 + 1 * k.val = k.val; omega
  | 2 => show 0 + 1 * j.val = j.val; omega

/-! ## The sum over the devices -/

/-- A device and its fifteen peers are all the devices. -/
theorem sum_peers (p : Fin 16) (o : Fin 16 → EReal) :
    o p + o (peer p 0) + o (peer p 1) + o (peer p 2) + o (peer p 3) + o (peer p 4) + o (peer p 5) + o (peer p 6) + o (peer p 7)
      + o (peer p 8) + o (peer p 9) + o (peer p 10) + o (peer p 11) + o (peer p 12) + o (peer p 13) + o (peer p 14) = ∑ c, o c := by
  have h : ∑ c, o c = o p + ∑ k : Fin 15, o (peer p k) := by
    rw [← Equiv.sum_comp (Equiv.addLeft (G := Fin 16) p) o, Fin.sum_univ_succ]
    refine congrArg₂ (· + ·) (congrArg o (Fin.ext ?_)) (Finset.sum_congr rfl fun k _ => congrArg o (Fin.ext ?_))
    · show (p.val + 0) % 16 = p.val
      have := p.isLt
      omega
    · show (p.val + (k.val + 1)) % 16 = (p.val + k.val + 1) % 16
      rw [Nat.add_assoc]
  rw [h]
  simp only [Fin.sum_univ_succ, Fin.sum_univ_zero, add_zero, add_assoc]
  rfl

variable (m : (ℓ : Loc nD τ sig) → Buf (Elt Ideal) ℓ) (ρ : Dev nD → PrngReg)

/-- A device's partial result at a row and a column. -/
def ownE (c : Fin 16) (r j : Fin 512) : EReal := ownF m ρ c (ix2 r j)

/-- The result read at an index: the sum of the devices' partial results there. -/
theorem out_sum (r j : Fin 512) : outF m ρ (ix2 r j) = ∑ c : Fin 16, ownE m ρ c r j := by
  have hr := r.isLt
  obtain ⟨p, hp⟩ : ∃ p : Fin 16, p.val = r.val / 32 := ⟨⟨r.val / 32, by omega⟩, rfl⟩
  obtain ⟨i, hi⟩ : ∃ i : Fin 32, i.val = r.val % 32 := ⟨⟨r.val % 32, by omega⟩, rfl⟩
  have e : rowIx p i j = ix2 r j := by
    funext a
    match a with
    | 0 => exact Fin.ext (by show 32 * p.val + i.val = r.val; omega)
    | 1 => rfl
  have h : outF m ρ (ix2 r j) = redF m ρ p (ix2 i j) := by
    unfold outF
    refine congrArg₂ (redF m ρ) (Fin.ext hp.symm) (funext fun a => ?_)
    match a with
    | 0 => exact Fin.ext hi.symm
    | 1 => rfl
  rw [h]
  unfold redF
  rw [red_val, ← sum_peers p (fun c => ownE m ρ c r j)]
  have ho : ownV m ρ p (ix2 i j) = ownF m ρ p (ix2 r j) := congrArg (ownF m ρ p) e
  have hs : ∀ s, slotV m ρ p s (ix3 0 i j) = ownF m ρ s (ix2 r j) := fun s => congrArg (ownF m ρ s) e
  rw [ho]
  simp only [hs]
  rfl

/-- The kernel's result read at an index, where every device holds the same finite row, the same finite router weights and
    the same experts' numbers, and its own two experts' matrices. -/
theorem out_apply (x : Vec Ideal S512x256 .bf16) (R : Vec Ideal S256x32 .bf16) (ix : Vec Ideal S512x2 .i32)
    (W : Vec Ideal Cert.ReferenceIdeal.S32x256x512 .bf16)
    (hx : ∀ c, xF m ρ c = x) (hR : ∀ c, rwF m ρ c = R) (hix : ∀ c, ixF m ρ c = ix)
    (hW : ∀ (c : Fin 16) (e : Fin 2) (k : Fin 256) (j : Fin 512),
      ewF m ρ c (ix3 e k j) = W (ix3 ⟨2 * c.val + e.val, by omega⟩ k j))
    (r j : Fin 512) (h0 : (ix (ix2 r 0)).toNat < 32) (h1 : (ix (ix2 r 1)).toNat < 32)
    (fx : ∀ k, ∃ a : ℝ, (x (ix2 r k) : EReal) = a) (fR : ∀ k e, ∃ a : ℝ, (R (ix2 k e) : EReal) = a) :
    outF m ρ (ix2 r j) =
      weight (fun k => x (ix2 r k)) (fun k e => R (ix2 k e)) ⟨_, h0⟩ ⟨_, h0⟩ ⟨_, h1⟩ * (∑ k, x (ix2 r k) * W (ix3 ⟨_, h0⟩ k j))
      + weight (fun k => x (ix2 r k)) (fun k e => R (ix2 k e)) ⟨_, h1⟩ ⟨_, h0⟩ ⟨_, h1⟩ * (∑ k, x (ix2 r k) * W (ix3 ⟨_, h1⟩ k j)) := by
  have P := prob_pos _ _ fx fR
  obtain ⟨a, ha, wa⟩ := weight_nonneg (P ⟨_, h0⟩) (P ⟨_, h1⟩) (P ⟨_, h0⟩)
  obtain ⟨b, hb, wb⟩ := weight_nonneg (P ⟨_, h0⟩) (P ⟨_, h1⟩) (P ⟨_, h1⟩)
  have own : ∀ c : Fin 16, ownE m ρ c r j =
      ((if (⟨_, h0⟩ : Fin 32) = ⟨2 * c.val, by omega⟩ then (a : EReal) * ∑ k, x (ix2 r k) * W (ix3 ⟨2 * c.val, by omega⟩ k j) else 0)
        + (if (⟨_, h1⟩ : Fin 32) = ⟨2 * c.val, by omega⟩ then (b : EReal) * ∑ k, x (ix2 r k) * W (ix3 ⟨2 * c.val, by omega⟩ k j) else 0))
      + ((if (⟨_, h0⟩ : Fin 32) = ⟨2 * c.val + 1, by omega⟩ then (a : EReal) * ∑ k, x (ix2 r k) * W (ix3 ⟨2 * c.val + 1, by omega⟩ k j) else 0)
        + (if (⟨_, h1⟩ : Fin 32) = ⟨2 * c.val + 1, by omega⟩ then (b : EReal) * ∑ k, x (ix2 r k) * W (ix3 ⟨2 * c.val + 1, by omega⟩ k j) else 0)) := by
    intro c
    have i0 : KernelIdealProof.ix0 m ρ c (ix2 r 0) = ix (ix2 r 0) := by rw [ix0_apply, hix]
    have i1 : KernelIdealProof.ix1 m ρ c (ix2 r 0) = ix (ix2 r 1) := by rw [ix1_apply, hix]
    unfold ownE ownF
    rw [hx, hR, own_val x (k0_pay2 x R) _ _ _ _ (wd c) r j (2 * c.val) (by omega) (word_two c).1 (word_two c).2
      (by rw [i0]; exact h0) (by rw [i1]; exact h1) a b (by simp only [i0, i1, pay2_apply]; exact wa) (by simp only [i0, i1, pay2_apply]; exact wb)]
    simp only [i0, i1, ew0_apply, ew1_apply, hW]
    rw [expert_term _ _ _ _ a b ha hb, expert_term _ _ _ _ a b ha hb]
    rfl
  rw [out_sum, Finset.sum_congr rfl fun c _ => own c,
    sum_pairs fun e : Fin 32 => (if (⟨_, h0⟩ : Fin 32) = e then (a : EReal) * ∑ k, x (ix2 r k) * W (ix3 e k j) else 0)
      + (if (⟨_, h1⟩ : Fin 32) = e then (b : EReal) * ∑ k, x (ix2 r k) * W (ix3 e k j) else 0), sum_chosen]
  unfold weight
  rw [wa, wb]

end Cert.Val
-- ==== Proof.Value.Meet.lean ====
/-
# Kernel and reference meet

What the precondition says of a device's blocks, and the two results' equality from it.
-/
module

public import proofs.«01_k».proof.Defs
public import proofs.«01_k».proof.Proof.KernelIdeal.Result
public import proofs.«01_k».proof.Proof.Value.Kernel

@[expose] public section

set_option maxRecDepth 16384

noncomputable section

namespace Cert.Val

open Idealize.ShloMosaic

/-- An extended real whose absolute value is below the bfloat16 infinity is a real number. -/
theorem real_of_below (a : EReal) (h : Ideal.cmp .olt (max a (-a)) (Ideal.ofBits .bf16 0x7F80#16) = 1#1) : ∃ t : ℝ, a = t := by
  have hinf : Ideal.ofBits .bf16 0x7F80#16 = ⊤ := by simp [Ideal.ofBits, Ideal.ieee]
  rw [hinf] at h
  have h' : max a (-a) < ⊤ := by
    by_contra hc
    have : Ideal.cmp .olt (max a (-a)) ⊤ = BitVec.ofBool (decide (max a (-a) < ⊤)) := rfl
    rw [this, decide_eq_false hc] at h
    exact absurd h (by decide)
  have h1 : a ≠ ⊤ := ((le_max_left a (-a)).trans_lt h').ne
  have h2 : a ≠ ⊥ := by
    rintro rfl
    exact absurd ((le_max_right (⊥ : EReal) (-⊥)).trans_lt h') (by simp)
  exact ⟨a.toReal, (EReal.coe_toReal h1 h2).symm⟩

/-- A word at least zero and less than thirty-two, both read signed, holds an expert's number. -/
theorem number_of_between (v : BitVec 32) (h : IntOp.andi (IntOp.cmpi .sge v 0#32) (IntOp.cmpi .slt v 32#32) = 1#1) : v.toNat < 32 := by
  have e : ∀ a b : Bool, IntOp.andi (BitVec.ofBool a) (BitVec.ofBool b) = 1#1 → a = true ∧ b = true := by decide
  obtain ⟨ha, hb⟩ := e (decide ((0#32 : BitVec 32).toInt ≤ v.toInt)) (decide (v.toInt < (32#32 : BitVec 32).toInt)) h
  have ha' : 0 ≤ v.toInt := of_decide_eq_true ha
  have hb' : v.toInt < 32 := of_decide_eq_true hb
  have := v.isLt
  rw [BitVec.toInt_eq_toNat_cond] at ha' hb'
  split at ha' <;> omega

section
variable [Cert.Pre_routed_KernelIdeal.Facts]
open Cert.Pre_routed_KernelIdeal

/-- What the precondition says of one device's blocks. -/
theorem routed_facts (x : FVec Ideal S512x256 .bf16) (R : FVec Ideal S256x32 .bf16) (ix : IVec S512x2 32) (W : FVec Ideal S2x256x512 .bf16)
    (h : (Cert.Pre_routed_KernelIdeal.fn (F := Ideal) x R ix W).1 = (fun _ => 1#1)
      ∧ (Cert.Pre_routed_KernelIdeal.fn (F := Ideal) x R ix W).2.1 = (fun _ => 1#1)
      ∧ (Cert.Pre_routed_KernelIdeal.fn (F := Ideal) x R ix W).2.2 = (fun _ => 1#1)) :
    (∀ r k, ∃ a : ℝ, (x (ix2 r k) : EReal) = a) ∧ (∀ k e, ∃ a : ℝ, (R (ix2 k e) : EReal) = a) ∧ ∀ r t, (ix (ix2 r t)).toNat < 32 :=
  ⟨fun r k => real_of_below _ (congrFun h.1 (ix2 r k)), fun k e => real_of_below _ (congrFun h.2.1 (ix2 k e)),
    fun r t => number_of_between _ (congrFun h.2.2 (ix2 r t))⟩

end

/-- Under the precondition, of memories that hold the same arguments, the kernel's result is the reference's. -/
theorem results_meet [Cert.Pre_routed_KernelIdeal.Facts]
    (m : (ℓ : Loc Cert.KernelIdeal.nD Cert.KernelIdeal.τ Cert.KernelIdeal.sig) → Buf (Elt Ideal) ℓ) (ρ : Dev Cert.KernelIdeal.nD → PrngReg)
    (x : Vec Ideal Cert.KernelIdeal.S512x256 .bf16) (R : Vec Ideal Cert.KernelIdeal.S256x32 .bf16) (ix : Vec Ideal Cert.KernelIdeal.S512x2 .i32)
    (W : Vec Ideal Cert.ReferenceIdeal.S32x256x512 .bf16) (hpre : Cert.Pre_KernelIdeal_routed_KernelIdeal m)
    (hx : ∀ c : Dev Cert.KernelIdeal.nD, m ((c.tc : Thread Cert.KernelIdeal.nD Cert.KernelIdeal.τ).loc Cert.KernelIdeal.main_arg0) = x)
    (hR : ∀ c : Dev Cert.KernelIdeal.nD, m ((c.tc : Thread Cert.KernelIdeal.nD Cert.KernelIdeal.τ).loc Cert.KernelIdeal.main_arg1) = R)
    (hix : ∀ c : Dev Cert.KernelIdeal.nD, m ((c.tc : Thread Cert.KernelIdeal.nD Cert.KernelIdeal.τ).loc Cert.KernelIdeal.main_arg2) = ix)
    (hW : ∀ c : Dev Cert.KernelIdeal.nD, m ((c.tc : Thread Cert.KernelIdeal.nD Cert.KernelIdeal.τ).loc Cert.KernelIdeal.main_arg3)
      = Layout.block ⟨3, ![2, 256, 512]⟩ ⟨3, ![32, 256, 512]⟩ 0 16 c W) :
    Cert.KernelIdealProof.outF m ρ = resR x R ix W := by
  have h0 := hpre (0 : Fin 16)
  rw [hx, hR, hix] at h0
  obtain ⟨fx, fR, fix⟩ := routed_facts x R ix _ h0
  funext i
  obtain ⟨r, j, rfl⟩ : ∃ (r j : Fin 512), i = ix2 r j := ⟨i 0, i 1, eq_ix2 i⟩
  refine (out_apply m ρ x R ix W (fun c => (Cert.KernelIdealProof.xF_eq m ρ c).trans (hx c)) (fun c => (Cert.KernelIdealProof.rwF_eq m ρ c).trans (hR c))
    (fun c => (Cert.KernelIdealProof.ixF_eq m ρ c).trans (hix c)) (fun c e k j => ?_) r j (fix r 0) (fix r 1) (fx r) fR).trans
    (resR_apply x R ix W r j (fix r 0) (fix r 1)).symm
  rw [Cert.KernelIdealProof.ewF_eq, hW]
  refine congrArg W (funext fun a => Fin.ext ?_)
  match a with
  | 0 => exact (show c.val * 2 + e.val = 2 * c.val + e.val by omega)
  | 1 => rfl
  | 2 => rfl

end Cert.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value.Meet
public import Idealize.ShloMosaic.Adequacy
public import Idealize.ShloMosaic.Init

@[expose] public section

noncomputable section

namespace Cert.Proof

open Idealize.ShloMosaic Idealize.SL.Sem Cert.Kernel

/-- The shapes the precondition's broadcasts name agree. -/
theorem pre_facts : Cert.Pre_routed_KernelIdeal.Facts := ⟨by decide, by decide, by decide⟩
theorem pre_facts' : Cert.Pre_routed_ReferenceIdeal.Facts := ⟨by decide, by decide, by decide⟩

/-- The kernel's frame. -/
theorem frame_kernel : Cert.quiescent_Kernel (hKernel := Cert.Kernel.Gen.facts) := fun m ρ _ =>
  (θ_run Cert.Kernel.defs _ _).mono (fun _ h => ⟨fun c => (h.1 c).2, h.2⟩) (Cert.KernelProof.run_result (F := Bits) m ρ)

/-- The ideal kernel's frame. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdealProof.run_result (F := Ideal) m ρ)

/-- The reference's frame: it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result over the extended reals is the reference's, where the precondition holds. -/
theorem meets : Cert.algebraic_KernelIdeal_ReferenceIdeal_pre_routed_KernelIdeal (hKernelIdeal := Cert.KernelIdeal.Gen.facts)
    (hReferenceIdeal := Cert.ReferenceIdeal.Gen.facts) (hPre_routed_KernelIdeal := pre_facts) := fun m g m' g' hpre hag =>
  have e := @Cert.Val.results_meet pre_facts m g _ _ _ _ hpre (fun c => (hag c).1) (fun c => (hag c).2.1) (fun c => (hag c).2.2.1)
    (fun c => (hag c).2.2.2)
  ⟨Cert.ReferenceIdeal.Value.res_main_v32 m' 0,
    (θ_run Cert.KernelIdeal.defs _ _).mono (fun _ h c => ⟨((h.1 c).1.trans e).trans (Cert.Val.res_eq m' 0).symm, (h.1 c).2⟩)
      (Cert.KernelIdealProof.run_result (F := Ideal) m g),
    (θ_run Cert.ReferenceIdeal.defs _ _).mono (fun _ h => h 0) (Cert.ReferenceIdeal.Value.run (F := Ideal) m' g')⟩

/-- Every claim of the certificate. -/
theorem claim : Cert.Claim := ⟨Cert.Kernel.Gen.facts, Cert.KernelIdeal.Gen.facts, Cert.ReferenceIdeal.Gen.facts, pre_facts, pre_facts',
  frame_kernel, frame_ideal, fun m ρ _ => frame_ideal m ρ trivial, frame_ref, fun m ρ _ => frame_ref m ρ trivial, trivial, meets⟩

end Cert.Proof

end
